-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_summable [hKernelIdeal : Cert.KernelIdeal.Facts] [hReferenceIdeal : Cert.ReferenceIdeal.Facts] [hOn_summable : Cert.On_summable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 256]⟩ : Shape).Idx, (Layout.block ⟨2, ![4096, 256]⟩ ⟨2, ![4096, 2048]⟩ 1 8 c ((Cert.On_summable.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 256]⟩ : Shape).Idx → _) i = 1#1 → r.2.mem ((c.tc : Thread Cert.KernelIdeal.nD Cert.KernelIdeal.τ).loc Cert.KernelIdeal.main_v1) i = (Layout.block ⟨2, ![4096, 256]⟩ ⟨2, ![4096, 2048]⟩ 1 8 c v0 : (⟨2, ![4096, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_summable.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v10) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts) (hOn_summable : Cert.On_summable.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_on_summable (hKernelIdeal := hKernelIdeal) (hReferenceIdeal := hReferenceIdeal) (hOn_summable := hOn_summable)
    ∧ algebraic_KernelIdeal_ReferenceIdeal_pre_tame_KernelIdeal (hKernelIdeal := hKernelIdeal) (hReferenceIdeal := hReferenceIdeal) (hPre_tame_KernelIdeal := hPre_tame_KernelIdeal)
-- ==== On_summable.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  natLt_8_32 : 8 < 32
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : IVec S4096x4096 8) (main_arg1 : IVec S4096x2048 8) (main_arg2 : FVec F S1 .f32) (main_arg3 : FVec F S1 .f32) : IVec S4096x2048 1 :=
  let main_v0 : IVec S4096x4096 32 := (extsi 32 · natLt_8_32) main_arg0
  let main_v1 : FVec F S4096x4096 .f32 := sitofp .f32 main_v0
  let main_v2 : FVec F S4096x4096 .f32 := Host.absf main_v1
  let main_v3 : IVec S4096x2048 32 := (extsi 32 · natLt_8_32) main_arg1
  let main_v4 : FVec F S4096x2048 .f32 := sitofp .f32 main_v3
  let main_v5 : FVec F S4096x2048 .f32 := Host.absf main_v4
  let main_v6 : FVec F S4096x2048 .f32 := (fun l r => Host.dotGeneral dot_S4096x4096_S4096x2048_S4096x2048_1_0_0_1_n_n none l r) main_v2 main_v5
  let main_cst : FVec F S_ .f32 := constant S_ .f32 0x4B7FFFFF#32
  let main_v7 : FVec F S4096x2048 .f32 := broadcastInDim S4096x2048 ![] bcast_S_S4096x2048 main_cst
  let main_v8 : IVec S4096x2048 1 := cmpf .ole main_v6 main_v7
  main_v8
-- ==== Pre_tame_KernelIdeal.lean ====
abbrev S512x4096 : Shape := ⟨2, ![512, 4096]⟩
abbrev S4096x256 : Shape := ⟨2, ![4096, 256]⟩
abbrev S1 : Shape := ⟨1, ![1]⟩
abbrev S_ : Shape := ⟨0, ![]⟩
abbrev S512 : Shape := ⟨1, ![512]⟩
abbrev S256 : Shape := ⟨1, ![256]⟩

class Facts : Prop where
  natLt_8_32 : 8 < 32
  reducesTo_S512x4096_S512_d1 : S512x4096.ReducesTo [1] S512
  h_S_ : 0 < S_.numel
  bcast_S_S512 : S_.BroadcastsInDim S512 (![] : Fin 0 → Fin S512.rank)
  reducesTo_S4096x256_S256_d0 : S4096x256.ReducesTo [0] S256
  bcast_S_S256 : S_.BroadcastsInDim S256 (![] : Fin 0 → Fin S256.rank)

variable [Facts]

def fn {F : FTy → Type} [FloatOps F] (main_arg0 : IVec S512x4096 8) (main_arg1 : IVec S4096x256 8) (main_arg2 : FVec F S1 .f32) (main_arg3 : FVec F S1 .f32) : IVec S512 1 × IVec S256 1 :=
  let main_v0 : IVec S512x4096 32 := (extsi 32 · natLt_8_32) main_arg0
  let main_v1 : FVec F S512x4096 .f32 := sitofp .f32 main_v0
  let main_v2 : IVec S4096x256 32 := (extsi 32 · natLt_8_32) main_arg1
  let main_v3 : FVec F S4096x256 .f32 := sitofp .f32 main_v2
  let main_v4 : FVec F S512x4096 .f32 := mulf main_v1 main_v1
  let main_cst : FVec F S_ .f32 := constant S_ .f32 0x00000000#32
  let main_v5 : FVec F S512 .f32 := (fun x v => Host.reduceAdd x v reducesTo_S512x4096_S512_d1 h_S_) main_v4 main_cst
  let main_cst_0 : FVec F S_ .f32 := constant S_ .f32 0x4B7FFFFF#32
  let main_v6 : FVec F S512 .f32 := broadcastInDim S512 ![] bcast_S_S512 main_cst_0
  let main_v7 : IVec S512 1 := cmpf .ole main_v5 main_v6
  let main_v8 : FVec F S4096x256 .f32 := mulf main_v3 main_v3
  let main_cst_1 : FVec F S_ .f32 := constant S_ .f32 0x00000000#32
  let main_v9 : FVec F S256 .f32 := (fun x v => Host.reduceAdd x v reducesTo_S4096x256_S256_d0 h_S_) main_v8 main_cst_1
  let main_cst_2 : FVec F S_ .f32 := constant S_ .f32 0x4B7FFFFF#32
  let main_v10 : FVec F S256 .f32 := broadcastInDim S256 ![] bcast_S_S256 main_cst_2
  let main_v11 : IVec S256 1 := cmpf .ole main_v9 main_v10
  (main_v7, main_v11)
-- ==== Pre_tame_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩
abbrev S4096 : Shape := ⟨1, ![4096]⟩
abbrev S2048 : Shape := ⟨1, ![2048]⟩

class Facts : Prop where
  natLt_8_32 : 8 < 32
  reducesTo_S4096x4096_S4096_d1 : S4096x4096.ReducesTo [1] S4096
  h_S_ : 0 < S_.numel
  bcast_S_S4096 : S_.BroadcastsInDim S4096 (![] : Fin 0 → Fin S4096.rank)
  reducesTo_S4096x2048_S2048_d0 : S4096x2048.ReducesTo [0] S2048
  bcast_S_S2048 : S_.BroadcastsInDim S2048 (![] : Fin 0 → Fin S2048.rank)

variable [Facts]

def fn {F : FTy → Type} [FloatOps F] (main_arg0 : IVec S4096x4096 8) (main_arg1 : IVec S4096x2048 8) (main_arg2 : FVec F S1 .f32) (main_arg3 : FVec F S1 .f32) : IVec S4096 1 × IVec S2048 1 :=
  let main_v0 : IVec S4096x4096 32 := (extsi 32 · natLt_8_32) main_arg0
  let main_v1 : FVec F S4096x4096 .f32 := sitofp .f32 main_v0
  let main_v2 : IVec S4096x2048 32 := (extsi 32 · natLt_8_32) main_arg1
  let main_v3 : FVec F S4096x2048 .f32 := sitofp .f32 main_v2
  let main_v4 : FVec F S4096x4096 .f32 := mulf main_v1 main_v1
  let main_cst : FVec F S_ .f32 := constant S_ .f32 0x00000000#32
  let main_v5 : FVec F S4096 .f32 := (fun x v => Host.reduceAdd x v reducesTo_S4096x4096_S4096_d1 h_S_) main_v4 main_cst
  let main_cst_0 : FVec F S_ .f32 := constant S_ .f32 0x4B7FFFFF#32
  let main_v6 : FVec F S4096 .f32 := broadcastInDim S4096 ![] bcast_S_S4096 main_cst_0
  let main_v7 : IVec S4096 1 := cmpf .ole main_v5 main_v6
  let main_v8 : FVec F S4096x2048 .f32 := mulf main_v3 main_v3
  let main_cst_1 : FVec F S_ .f32 := constant S_ .f32 0x00000000#32
  let main_v9 : FVec F S2048 .f32 := (fun x v => Host.reduceAdd x v reducesTo_S4096x2048_S2048_d0 h_S_) main_v8 main_cst_1
  let main_cst_2 : FVec F S_ .f32 := constant S_ .f32 0x4B7FFFFF#32
  let main_v10 : FVec F S2048 .f32 := broadcastInDim S2048 ![] bcast_S_S2048 main_cst_2
  let main_v11 : IVec S2048 1 := cmpf .ole main_v9 main_v10
  (main_v7, main_v11)
-- ==== Kernel.lean ====
abbrev S512x4096 : Shape := ⟨2, ![512, 4096]⟩
abbrev S4096x256 : Shape := ⟨2, ![4096, 256]⟩
abbrev S1 : Shape := ⟨1, ![1]⟩
abbrev S7x4x64x4096 : Shape := ⟨4, ![7, 4, 64, 4096]⟩
abbrev S7x4 : Shape := ⟨2, ![7, 4]⟩
abbrev S_ : Shape := ⟨0, ![]⟩
abbrev S1x1 : Shape := ⟨2, ![1, 1]⟩
abbrev S1x1x64x4096 : Shape := ⟨4, ![1, 1, 64, 4096]⟩
abbrev S64x4096 : Shape := ⟨2, ![64, 4096]⟩
abbrev S512x256 : Shape := ⟨2, ![512, 256]⟩
abbrev S1x4x64x4096 : Shape := ⟨4, ![1, 4, 64, 4096]⟩
abbrev S4x64x4096 : Shape := ⟨3, ![4, 64, 4096]⟩
abbrev S256x4096 : Shape := ⟨2, ![256, 4096]⟩
abbrev S256x256 : Shape := ⟨2, ![256, 256]⟩

abbrev nBuf : Space → Nat
  | .hbm => 5
  | .vmem => 5
  | .smem => 2
  | _ => 0

abbrev bufTy : (tb : Table) → Fin (tcTables nBuf tb) → BufTy
  | .hbm, ⟨0, _⟩ => ⟨S512x4096, .i8⟩
  | .hbm, ⟨1, _⟩ => ⟨S4096x256, .i8⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .i8⟩
  | .local _ .vmem, ⟨1, _⟩ => ⟨S4096x256, .i8⟩
  | .local _ .vmem, ⟨2, _⟩ => ⟨S4096x256, .f32⟩
  | .local _ .vmem, ⟨3, _⟩ => ⟨S7x4x64x4096, .i8⟩
  | .local _ .vmem, ⟨4, _⟩ => ⟨S7x4x64x4096, .i8⟩
  | .local _ .smem, ⟨0, _⟩ => ⟨S1, .f32⟩
  | .local _ .smem, ⟨1, _⟩ => ⟨S1, .f32⟩
  | _, _ => ⟨S512x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  (ofTc nBuf bufTy 1 117 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_15 : BitVec 32 := 1#32
  let v15 : BitVec 32 := Scalar.muli v6 c1_i32_15
  let v16 : BitVec 32 := Scalar.addi c0_i32_16 v15
  v16.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_27 : BitVec 32 := 1#32
  let v24 : BitVec 32 := Scalar.muli v6 c1_i32_27
  let v25 : BitVec 32 := Scalar.addi c0_i32_28 v24
  v25.toNat
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_38 : BitVec 32 := 1#32
  let v33 : BitVec 32 := Scalar.muli v6 c1_i32_38
  let v34 : BitVec 32 := Scalar.addi c0_i32_39 v33
  v34.toNat
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_48 : BitVec 32 := 1#32
  let v42 : BitVec 32 := Scalar.muli v6 c1_i32_48
  let v43 : BitVec 32 := Scalar.addi c0_i32_49 v42
  v43.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_59 : BitVec 32 := 1#32
  let v51 : BitVec 32 := Scalar.muli v4 c1_i32_59
  let v52 : BitVec 32 := Scalar.addi c0_i32_60 v51
  v52.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_70 : BitVec 32 := 1#32
  let v60 : BitVec 32 := Scalar.muli v4 c1_i32_70
  let v61 : BitVec 32 := Scalar.addi c0_i32_71 v60
  v61.toNat
def k0_dev9 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_81 : BitVec 32 := 1#32
  let v69 : BitVec 32 := Scalar.muli v4 c1_i32_81
  let v70 : BitVec 32 := Scalar.addi c0_i32_82 v69
  v70.toNat
def k0_dev10 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_92 : BitVec 32 := 1#32
  let v78 : BitVec 32 := Scalar.muli v4 c1_i32_92
  let v79 : BitVec 32 := Scalar.addi c0_i32_93 v78
  v79.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v89 : BitVec 32 := Scalar.muli v2 c512_i32
  let v98 : Index := Scalar.indexCast v89
  let c0_102 : Index := 0#32
  ![v98.toNat, 0]
def k0_dev11 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_123 : BitVec 32 := 1#32
  let v107 : BitVec 32 := Scalar.muli v6 c1_i32_123
  let v108 : BitVec 32 := Scalar.addi c0_i32_124 v107
  v108.toNat
def k0_dev12 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_149 : BitVec 32 := 1#32
  let v124 : BitVec 32 := Scalar.muli v4 c1_i32_149
  let v125 : BitVec 32 := Scalar.addi c0_i32_150 v124
  v125.toNat
def k0_dev13 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_175 : BitVec 32 := 1#32
  let v141 : BitVec 32 := Scalar.muli v6 c1_i32_175
  let v142 : BitVec 32 := Scalar.addi c0_i32_176 v141
  v142.toNat
def k0_dev14 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_201 : BitVec 32 := 1#32
  let v158 : BitVec 32 := Scalar.muli v4 c1_i32_201
  let v159 : BitVec 32 := Scalar.addi c0_i32_202 v158
  v159.toNat
def k0_dev15 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_227 : BitVec 32 := 1#32
  let v175 : BitVec 32 := Scalar.muli v6 c1_i32_227
  let v176 : BitVec 32 := Scalar.addi c0_i32_228 v175
  v176.toNat
def k0_dev16 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_253 : BitVec 32 := 1#32
  let v192 : BitVec 32 := Scalar.muli v4 c1_i32_253
  let v193 : BitVec 32 := Scalar.addi c0_i32_254 v192
  v193.toNat
def k0_dev17 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_279 : BitVec 32 := 1#32
  let v209 : BitVec 32 := Scalar.muli v6 c1_i32_279
  let v210 : BitVec 32 := Scalar.addi c0_i32_280 v209
  v210.toNat
def k0_dev18 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_305 : BitVec 32 := 1#32
  let v226 : BitVec 32 := Scalar.muli v4 c1_i32_305
  let v227 : BitVec 32 := Scalar.addi c0_i32_306 v226
  v227.toNat
def k0_off2 (d0 : Dev nD) (c1_i32_311 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v236 : BitVec 32 := Scalar.subi v2 c1_i32_311
  let c8_i32_312 : BitVec 32 := 8#32
  let v237 : BitVec 32 := Scalar.addi v236 c8_i32_312
  let c8_i32_313 : BitVec 32 := 8#32
  let v238 : BitVec 32 := Scalar.remsi v237 c8_i32_313
  let c512_i32_320 : BitVec 32 := 512#32
  let v244 : BitVec 32 := Scalar.muli v238 c512_i32_320
  let v253 : Index := Scalar.indexCast v244
  let c0_325 : Index := 0#32
  ![v253.toNat, 0]
def k0_off3 (d0 : Dev nD) (c1_i32_314 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v239 : BitVec 32 := Scalar.addi v2 c1_i32_314
  let c8_i32_315 : BitVec 32 := 8#32
  let v240 : BitVec 32 := Scalar.remsi v239 c8_i32_315
  let c512_i32_330 : BitVec 32 := 512#32
  let v258 : BitVec 32 := Scalar.muli v240 c512_i32_330
  let c256_i32_331 : BitVec 32 := 256#32
  let v259 : BitVec 32 := Scalar.addi v258 c256_i32_331
  let v268 : Index := Scalar.indexCast v259
  let c0_336 : Index := 0#32
  ![v268.toNat, 0]
def k0_dev19 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_359 : BitVec 32 := 1#32
  let v278 : BitVec 32 := Scalar.muli v6 c1_i32_359
  let v279 : BitVec 32 := Scalar.addi c0_i32_360 v278
  v279.toNat
def k0_dev20 (d0 : Dev nD) : Nat :=
  let c0_i32_388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_387 : BitVec 32 := 1#32
  let v296 : BitVec 32 := Scalar.muli v4 c1_i32_387
  let v297 : BitVec 32 := Scalar.addi c0_i32_388 v296
  v297.toNat
def k0_dev21 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_415 : BitVec 32 := 1#32
  let v314 : BitVec 32 := Scalar.muli v6 c1_i32_415
  let v315 : BitVec 32 := Scalar.addi c0_i32_416 v314
  v315.toNat
def k0_dev22 (d0 : Dev nD) : Nat :=
  let c0_i32_444 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_443 : BitVec 32 := 1#32
  let v332 : BitVec 32 := Scalar.muli v4 c1_i32_443
  let v333 : BitVec 32 := Scalar.addi c0_i32_444 v332
  v333.toNat
def k0_dev23 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_471 : BitVec 32 := 1#32
  let v350 : BitVec 32 := Scalar.muli v6 c1_i32_471
  let v351 : BitVec 32 := Scalar.addi c0_i32_472 v350
  v351.toNat
def k0_dev24 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_499 : BitVec 32 := 1#32
  let v368 : BitVec 32 := Scalar.muli v4 c1_i32_499
  let v369 : BitVec 32 := Scalar.addi c0_i32_500 v368
  v369.toNat
def k0_dev25 (d0 : Dev nD) : Nat :=
  let c0_i32_528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_527 : BitVec 32 := 1#32
  let v386 : BitVec 32 := Scalar.muli v6 c1_i32_527
  let v387 : BitVec 32 := Scalar.addi c0_i32_528 v386
  v387.toNat
def k0_dev26 (d0 : Dev nD) : Nat :=
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_555 : BitVec 32 := 1#32
  let v404 : BitVec 32 := Scalar.muli v4 c1_i32_555
  let v405 : BitVec 32 := Scalar.addi c0_i32_556 v404
  v405.toNat
def k0_dev27 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_608 : BitVec 32 := 1#32
  let v456 : BitVec 32 := Scalar.muli v6 c1_i32_608
  let v457 : BitVec 32 := Scalar.addi c0_i32_609 v456
  v457.toNat
def k0_dev28 (d0 : Dev nD) : Nat :=
  let c0_i32_637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_636 : BitVec 32 := 1#32
  let v474 : BitVec 32 := Scalar.muli v4 c1_i32_636
  let v475 : BitVec 32 := Scalar.addi c0_i32_637 v474
  v475.toNat
def k0_dev29 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_664 : BitVec 32 := 1#32
  let v492 : BitVec 32 := Scalar.muli v6 c1_i32_664
  let v493 : BitVec 32 := Scalar.addi c0_i32_665 v492
  v493.toNat
def k0_dev30 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_692 : BitVec 32 := 1#32
  let v510 : BitVec 32 := Scalar.muli v4 c1_i32_692
  let v511 : BitVec 32 := Scalar.addi c0_i32_693 v510
  v511.toNat
def k0_dev31 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_720 : BitVec 32 := 1#32
  let v528 : BitVec 32 := Scalar.muli v6 c1_i32_720
  let v529 : BitVec 32 := Scalar.addi c0_i32_721 v528
  v529.toNat
def k0_dev32 (d0 : Dev nD) : Nat :=
  let c0_i32_749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_748 : BitVec 32 := 1#32
  let v546 : BitVec 32 := Scalar.muli v4 c1_i32_748
  let v547 : BitVec 32 := Scalar.addi c0_i32_749 v546
  v547.toNat
def k0_dev33 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_776 : BitVec 32 := 1#32
  let v564 : BitVec 32 := Scalar.muli v6 c1_i32_776
  let v565 : BitVec 32 := Scalar.addi c0_i32_777 v564
  v565.toNat
def k0_dev34 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_804 : BitVec 32 := 1#32
  let v582 : BitVec 32 := Scalar.muli v4 c1_i32_804
  let v583 : BitVec 32 := Scalar.addi c0_i32_805 v582
  v583.toNat
def k0_dev35 (d0 : Dev nD) : Nat :=
  let c0_i32_857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_856 : BitVec 32 := 1#32
  let v634 : BitVec 32 := Scalar.muli v6 c1_i32_856
  let v635 : BitVec 32 := Scalar.addi c0_i32_857 v634
  v635.toNat
def k0_dev36 (d0 : Dev nD) : Nat :=
  let c0_i32_885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_884 : BitVec 32 := 1#32
  let v652 : BitVec 32 := Scalar.muli v4 c1_i32_884
  let v653 : BitVec 32 := Scalar.addi c0_i32_885 v652
  v653.toNat
def k0_dev37 (d0 : Dev nD) : Nat :=
  let c0_i32_913 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_912 : BitVec 32 := 1#32
  let v670 : BitVec 32 := Scalar.muli v6 c1_i32_912
  let v671 : BitVec 32 := Scalar.addi c0_i32_913 v670
  v671.toNat
def k0_dev38 (d0 : Dev nD) : Nat :=
  let c0_i32_941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_940 : BitVec 32 := 1#32
  let v688 : BitVec 32 := Scalar.muli v4 c1_i32_940
  let v689 : BitVec 32 := Scalar.addi c0_i32_941 v688
  v689.toNat
def k0_dev39 (d0 : Dev nD) : Nat :=
  let c0_i32_969 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_968 : BitVec 32 := 1#32
  let v706 : BitVec 32 := Scalar.muli v6 c1_i32_968
  let v707 : BitVec 32 := Scalar.addi c0_i32_969 v706
  v707.toNat
def k0_dev40 (d0 : Dev nD) : Nat :=
  let c0_i32_997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_996 : BitVec 32 := 1#32
  let v724 : BitVec 32 := Scalar.muli v4 c1_i32_996
  let v725 : BitVec 32 := Scalar.addi c0_i32_997 v724
  v725.toNat
def k0_dev41 (d0 : Dev nD) : Nat :=
  let c0_i32_1025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1024 : BitVec 32 := 1#32
  let v742 : BitVec 32 := Scalar.muli v6 c1_i32_1024
  let v743 : BitVec 32 := Scalar.addi c0_i32_1025 v742
  v743.toNat
def k0_dev42 (d0 : Dev nD) : Nat :=
  let c0_i32_1053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1052 : BitVec 32 := 1#32
  let v760 : BitVec 32 := Scalar.muli v4 c1_i32_1052
  let v761 : BitVec 32 := Scalar.addi c0_i32_1053 v760
  v761.toNat
def k0_dev43 (d0 : Dev nD) : Nat :=
  let c0_i32_1105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1104 : BitVec 32 := 1#32
  let v812 : BitVec 32 := Scalar.muli v6 c1_i32_1104
  let v813 : BitVec 32 := Scalar.addi c0_i32_1105 v812
  v813.toNat
def k0_dev44 (d0 : Dev nD) : Nat :=
  let c0_i32_1133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1132 : BitVec 32 := 1#32
  let v830 : BitVec 32 := Scalar.muli v4 c1_i32_1132
  let v831 : BitVec 32 := Scalar.addi c0_i32_1133 v830
  v831.toNat
def k0_dev45 (d0 : Dev nD) : Nat :=
  let c0_i32_1161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1160 : BitVec 32 := 1#32
  let v848 : BitVec 32 := Scalar.muli v6 c1_i32_1160
  let v849 : BitVec 32 := Scalar.addi c0_i32_1161 v848
  v849.toNat
def k0_dev46 (d0 : Dev nD) : Nat :=
  let c0_i32_1189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1188 : BitVec 32 := 1#32
  let v866 : BitVec 32 := Scalar.muli v4 c1_i32_1188
  let v867 : BitVec 32 := Scalar.addi c0_i32_1189 v866
  v867.toNat
def k0_dev47 (d0 : Dev nD) : Nat :=
  let c0_i32_1217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1216 : BitVec 32 := 1#32
  let v884 : BitVec 32 := Scalar.muli v6 c1_i32_1216
  let v885 : BitVec 32 := Scalar.addi c0_i32_1217 v884
  v885.toNat
def k0_dev48 (d0 : Dev nD) : Nat :=
  let c0_i32_1245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1244 : BitVec 32 := 1#32
  let v902 : BitVec 32 := Scalar.muli v4 c1_i32_1244
  let v903 : BitVec 32 := Scalar.addi c0_i32_1245 v902
  v903.toNat
def k0_dev49 (d0 : Dev nD) : Nat :=
  let c0_i32_1273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1272 : BitVec 32 := 1#32
  let v920 : BitVec 32 := Scalar.muli v6 c1_i32_1272
  let v921 : BitVec 32 := Scalar.addi c0_i32_1273 v920
  v921.toNat
def k0_dev50 (d0 : Dev nD) : Nat :=
  let c0_i32_1301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1300 : BitVec 32 := 1#32
  let v938 : BitVec 32 := Scalar.muli v4 c1_i32_1300
  let v939 : BitVec 32 := Scalar.addi c0_i32_1301 v938
  v939.toNat
def k0_dev51 (d0 : Dev nD) : Nat :=
  let c0_i32_1353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1352 : BitVec 32 := 1#32
  let v990 : BitVec 32 := Scalar.muli v6 c1_i32_1352
  let v991 : BitVec 32 := Scalar.addi c0_i32_1353 v990
  v991.toNat
def k0_dev52 (d0 : Dev nD) : Nat :=
  let c0_i32_1381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1380 : BitVec 32 := 1#32
  let v1008 : BitVec 32 := Scalar.muli v4 c1_i32_1380
  let v1009 : BitVec 32 := Scalar.addi c0_i32_1381 v1008
  v1009.toNat
def k0_dev53 (d0 : Dev nD) : Nat :=
  let c0_i32_1409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1408 : BitVec 32 := 1#32
  let v1026 : BitVec 32 := Scalar.muli v6 c1_i32_1408
  let v1027 : BitVec 32 := Scalar.addi c0_i32_1409 v1026
  v1027.toNat
def k0_dev54 (d0 : Dev nD) : Nat :=
  let c0_i32_1437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1436 : BitVec 32 := 1#32
  let v1044 : BitVec 32 := Scalar.muli v4 c1_i32_1436
  let v1045 : BitVec 32 := Scalar.addi c0_i32_1437 v1044
  v1045.toNat
def k0_dev55 (d0 : Dev nD) : Nat :=
  let c0_i32_1465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1464 : BitVec 32 := 1#32
  let v1062 : BitVec 32 := Scalar.muli v6 c1_i32_1464
  let v1063 : BitVec 32 := Scalar.addi c0_i32_1465 v1062
  v1063.toNat
def k0_dev56 (d0 : Dev nD) : Nat :=
  let c0_i32_1493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1492 : BitVec 32 := 1#32
  let v1080 : BitVec 32 := Scalar.muli v4 c1_i32_1492
  let v1081 : BitVec 32 := Scalar.addi c0_i32_1493 v1080
  v1081.toNat
def k0_dev57 (d0 : Dev nD) : Nat :=
  let c0_i32_1521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.addi v2 c1_i32_1
  let c8_i32_2 : BitVec 32 := 8#32
  let v6 : BitVec 32 := Scalar.remsi v5 c8_i32_2
  let c1_i32_1520 : BitVec 32 := 1#32
  let v1098 : BitVec 32 := Scalar.muli v6 c1_i32_1520
  let v1099 : BitVec 32 := Scalar.addi c0_i32_1521 v1098
  v1099.toNat
def k0_dev58 (d0 : Dev nD) : Nat :=
  let c0_i32_1549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3 : BitVec 32 := Scalar.addi v2 c7_i32
  let c8_i32_0 : BitVec 32 := 8#32
  let v4 : BitVec 32 := Scalar.remsi v3 c8_i32_0
  let c1_i32_1548 : BitVec 32 := 1#32
  let v1116 : BitVec 32 := Scalar.muli v4 c1_i32_1548
  let v1117 : BitVec 32 := Scalar.addi c0_i32_1549 v1116
  v1117.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1694 : BitVec 32 := 1#32
  let v1227 : BitVec 32 := Scalar.addi v2 c1_i32_1694
  let c8_i32_1695 : BitVec 32 := 8#32
  let v1228 : BitVec 32 := Scalar.remsi v1227 c8_i32_1695
  let c512_i32_1696 : BitVec 32 := 512#32
  let v1229 : BitVec 32 := Scalar.muli v1228 c512_i32_1696
  let v1238 : Index := Scalar.indexCast v1229
  let c0_1701 : Index := 0#32
  ![v1238.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1706 : BitVec 32 := 8#32
  let v1243 : BitVec 32 := Scalar.addi v2 c8_i32_1706
  let c1_i32_1707 : BitVec 32 := 1#32
  let v1244 : BitVec 32 := Scalar.subi v1243 c1_i32_1707
  let c8_i32_1708 : BitVec 32 := 8#32
  let v1245 : BitVec 32 := Scalar.remsi v1244 c8_i32_1708
  let c512_i32_1709 : BitVec 32 := 512#32
  let v1246 : BitVec 32 := Scalar.muli v1245 c512_i32_1709
  let c256_i32_1710 : BitVec 32 := 256#32
  let v1247 : BitVec 32 := Scalar.addi v1246 c256_i32_1710
  let v1256 : Index := Scalar.indexCast v1247
  let c0_1715 : Index := 0#32
  ![v1256.toNat, 0]
abbrev stage0_0 : Fin 1 → Memref sig .tc .vmem S512x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.KernelIdeal.Program.lean ====
/- The kernel's body written as loops over directions, hops and pieces.

   The printed body lists every transfer, wait and block product one after the other. Here the same sequence is
   spelled by one definition per kind of step — a piece sent on, a landed piece waited for, a block of rows
   multiplied, a sent piece waited for —, each over the direction (`true`: pieces travel to the next device,
   `false`: to the previous one), the hop and the piece, and by loops over them. `body_eq` states that the printed
   body on its staging buffers IS that program. -/
module

public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.Ring

open Cert.KernelIdeal Cert.KernelIdeal.Gen Idealize.ShloMosaic Idealize.SL.Sem

variable {F : FTy → Type} [FloatOps F]

/-- Do `f` at each member of the list in order. -/
def forL {E : Type → Type} {ι : Type} (f : ι → Prog E PUnit) : List ι → Prog E PUnit
  | [] => pure ⟨⟩
  | a :: l => f a >>= fun _ => forL f l

/-! ## The buffers, the pieces and the semaphores -/

abbrev xM : Memref sig .tc .vmem S512x4096 .i8 := Memref.whole cc0_stg0_0
abbrev wM : Memref sig .tc .vmem S4096x256 .i8 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x256 .f32 := Memref.whole cc0_stg4_0

/-- The landing buffer of a direction. -/
def comm : Bool → Memref sig .tc .vmem S7x4x64x4096 .i8
  | true => Memref.whole cc0_scratch0
  | false => Memref.whole cc0_scratch1
theorem comm_whole : ∀ d, (comm d).IsWhole
  | true => Memref.isWhole_whole _
  | false => Memref.isWhole_whole _

/-- The semaphores a direction's sends complete on, and those its arrivals do. -/
def sendS : Bool → DmaSems sig S7x4
  | true => cc0_scratch2
  | false => cc0_scratch4
def recvS : Bool → DmaSems sig S7x4
  | true => cc0_scratch3
  | false => cc0_scratch5

theorem inb_sem : ∀ (h : Fin 7) (s : Fin 4), ∀ a, (![h.val, s.val] : Fin 2 → Nat) a + S1x1.size a ≤ S7x4.size a := by decide
theorem inb_piece : ∀ (h : Fin 7) (s : Fin 4), ∀ a, (![h.val, s.val, 0, 0] : Fin 4 → Nat) a + S1x1x64x4096.size a ≤ S7x4x64x4096.size a := by decide
theorem inb_hop : ∀ (h : Fin 7), ∀ a, (![h.val, 0, 0, 0] : Fin 4 → Nat) a + S1x4x64x4096.size a ≤ S7x4x64x4096.size a := by decide

/-- The first row of `x` that direction `d` sends as its piece `s`. -/
def xoff : Bool → Fin 4 → Nat
  | true, s => 64 * s.val
  | false, s => 256 + 64 * s.val
theorem inb_x : ∀ (d : Bool) (s : Fin 4), ∀ a, (![xoff d s, 0] : Fin 2 → Nat) a + S64x4096.size a ≤ S512x4096.size a := by decide

/-- The send and arrival semaphore of the transfer of hop `h`, piece `s`. -/
def sSem (d : Bool) (h : Fin 7) (s : Fin 4) : DmaSem sig :=
  (((sendS d).slice (Rect.unit (s := S7x4) ![h.val, s.val] S1x1.size (inb_sem h s))).squeeze S_ squeezes_S1x1_S_).sem
def rSem (d : Bool) (h : Fin 7) (s : Fin 4) : DmaSem sig :=
  (((recvS d).slice (Rect.unit (s := S7x4) ![h.val, s.val] S1x1.size (inb_sem h s))).squeeze S_ squeezes_S1x1_S_).sem

/-- The part of the landing buffer that piece `s` of hop `h` lands in. -/
def piece (d : Bool) (h : Fin 7) (s : Fin 4) : Memref sig .tc .vmem S64x4096 .i8 :=
  ((comm d).slice (Rect.unit (s := S7x4x64x4096) ![h.val, s.val, 0, 0] S1x1x64x4096.size (inb_piece h s)) (fun _ => rfl)).squeeze S64x4096
    squeezes_S1x1x64x4096_S64x4096
/-- The rows of the device's own `x` that are piece `s` of hop 0. -/
def xrow (d : Bool) (s : Fin 4) : Memref sig .tc .vmem S64x4096 .i8 :=
  xM.slice (Rect.unit (s := S512x4096) ![xoff d s, 0] S64x4096.size (inb_x d s)) (fun _ => rfl)
/-- What hop `h` sends: the device's own rows at hop 0, afterwards the piece that landed one hop before. -/
def src (d : Bool) : Fin 7 → Fin 4 → Memref sig .tc .vmem S64x4096 .i8
  | ⟨0, _⟩, s => xrow d s
  | ⟨n + 1, hn⟩, s => piece d ⟨n, Nat.lt_of_succ_lt hn⟩ s

theorem words_piece : ∀ (h : Fin 7) (s : Fin 4),
    (Rect.unit (s := S7x4x64x4096) ![h.val, s.val, 0, 0] S1x1x64x4096.size (inb_piece h s)).WholeWords (EltTy.packing .i8) := by decide
theorem words_x : ∀ (d : Bool) (s : Fin 4),
    (Rect.unit (s := S512x4096) ![xoff d s, 0] S64x4096.size (inb_x d s)).WholeWords (EltTy.packing .i8) := by decide

theorem piece_exact (d : Bool) (h : Fin 7) (s : Fin 4) : (piece d h s).view.WordExact :=
  ((comm_whole d).wordExact_slice rfl _ (words_piece h s)).reshape _ _
theorem xrow_exact (d : Bool) (s : Fin 4) : (xrow d s).view.WordExact :=
  (Memref.isWhole_whole cc0_stg0_0).wordExact_slice rfl _ (words_x d s)
theorem src_exact (d : Bool) : ∀ (h : Fin 7) (s : Fin 4), (src d h s).view.WordExact
  | ⟨0, _⟩, s => xrow_exact d s
  | ⟨n + 1, hn⟩, s => piece_exact d ⟨n, Nat.lt_of_succ_lt hn⟩ s

theorem piece_shared (d : Bool) (h : Fin 7) (s : Fin 4) : (piece d h s).view.ref.isScScratch = false := by cases d <;> rfl

/-- The device a direction sends to, as the body computes it. -/
def toDev : Bool → Dev nD → Dev nD
  | true, c => ⟨k0_dev2 c, k0_dev2_lt c⟩
  | false, c => ⟨k0_dev1 c, k0_dev1_lt c⟩

/-! ## The steps -/

abbrev barS : Sem sig := (SemArray.scalar (sig.barrier 0 rfl) : Sems sig S_).sem

/-- Send piece `s` of hop `h` on. -/
def sendOp (c : Dev nD) (d : Bool) (h : Fin 7) (s : Fin 4) : Prog (TpuEff nD τ sig (Elt F) Λ₀ .tc) PUnit :=
  Prog.lift (.enqueueDma (src d h s) (.remote (Dev.tc (toDev d c)) (piece d h s) (.dma (sSem d h s)) (piece_shared d h s)) (.dma (rSem d h s))
    (src_exact d h s) (piece_exact d h s) ⟨⟨rfl, Or.inl rfl⟩, trivial⟩)
/-- Wait for piece `s` of hop `h` to arrive. -/
def recvOp (d : Bool) (h : Fin 7) (s : Fin 4) : Prog (TpuEff nD τ sig (Elt F) Λ₀ .tc) PUnit :=
  Prog.lift (.waitDma2 (rSem d h s) (src d h s) (piece d h s) (src_exact d h s) (piece_exact d h s))
/-- Wait for one's own send of piece `s` of hop `h` to be done. -/
def doneOp (d : Bool) (h : Fin 7) (s : Fin 4) : Prog (TpuEff nD τ sig (Elt F) Λ₀ .tc) PUnit :=
  Prog.lift (.waitDma2 (sSem d h s) (piece d h s) (src d h s) (piece_exact d h s) (src_exact d h s))

/-- The rectangle of the result that the rows of hop `h` fill. -/
def halfOff (d : Bool) (h : Fin 7) (c : Dev nD) : Fin 2 → Nat :=
  match d with
  | true => if h.val < 6 then k0_off2 c (BitVec.ofNat 32 (1 + h.val)) else k0_off4 c
  | false => if h.val < 6 then k0_off3 c (BitVec.ofNat 32 (1 + h.val)) else k0_off5 c
theorem halfOff_inb : ∀ (d : Bool) (h : Fin 7) (c : Dev nD), ∀ a, halfOff d h c a + S256x256.size a ≤ S4096x256.size a := by decide +kernel
abbrev halfRect (d : Bool) (h : Fin 7) (c : Dev nD) : Rect S4096x256 := Rect.unit (s := S4096x256) (halfOff d h c) S256x256.size (halfOff_inb d h c)
abbrev ownRect (c : Dev nD) : Rect S4096x256 := Rect.unit (s := S4096x256) (k0_off1 c) S512x256.size (k0_off1_inb c)
abbrev hopRect (h : Fin 7) : Rect S7x4x64x4096 := Rect.unit (s := S7x4x64x4096) ![h.val, 0, 0, 0] S1x4x64x4096.size (inb_hop h)
abbrev wRect : Rect S4096x256 := Rect.unit (s := S4096x256) ![0, 0] S4096x256.size inb_S4096x256_S4096x256_0_0
abbrev xRect : Rect S512x4096 := Rect.unit (s := S512x4096) ![0, 0] S512x4096.size inb_S512x4096_S512x4096_0_0

/-- Multiply the rows of hop `h`, scale, cut at zero and store them. -/
def halfOp (c : Dev nD) (k : F .f32) (d : Bool) (h : Fin 7) : Prog (TpuEff nD τ sig (Elt F) Λ₀ .tc) PUnit := do
  let v : Vec F S1x4x64x4096 .i8 ← Prog.lift (.load (comm d) (hopRect h).toLoadRect (View.loadsAt_vmem h_S1x4x64x4096))
  let w : Vec F S4096x256 .i8 ← Prog.lift (.load wM wRect.toLoadRect (View.loadsAt_vmem h_S4096x256))
  let o : Vec F S256x256 .f32 ← Prog.lift (.load oM (halfRect d h c).toLoadRect (View.loadsAt_vmem h_S256x256))
  Prog.lift (.store oM (halfRect d h c) (k0_pay3 k v w) Finset.univ (View.stores_vmem_bits_univ h_S256x256 rfl) (.inl rfl))
/-- The same for the device's own rows. -/
def ownOp (c : Dev nD) (k : F .f32) : Prog (TpuEff nD τ sig (Elt F) Λ₀ .tc) PUnit := do
  let v : Vec F S512x4096 .i8 ← Prog.lift (.load xM xRect.toLoadRect (View.loadsAt_vmem h_S512x4096))
  let w : Vec F S4096x256 .i8 ← Prog.lift (.load wM wRect.toLoadRect (View.loadsAt_vmem h_S4096x256))
  let o : Vec F S512x256 .f32 ← Prog.lift (.load oM (ownRect c).toLoadRect (View.loadsAt_vmem h_S512x256))
  Prog.lift (.store oM (ownRect c) (k0_pay2 k v w) Finset.univ (View.stores_vmem_bits_univ h_S512x256 rfl) (.inl rfl))

/-- One piece waited for and sent on. -/
def relayOp (c : Dev nD) (d : Bool) (h : Fin 6) (s : Fin 4) : Prog (TpuEff nD τ sig (Elt F) Λ₀ .tc) PUnit :=
  recvOp d h.castSucc s >>= fun _ => sendOp c d h.succ s

abbrev four : List (Fin 4) := [0, 1, 2, 3]

/-- A hop: every piece of both directions waited for and sent on, then the hop's rows multiplied. -/
def hopOp (c : Dev nD) (k : F .f32) (h : Fin 6) : Prog (TpuEff nD τ sig (Elt F) Λ₀ .tc) PUnit := do
  forL (fun s => relayOp c true h s >>= fun _ => relayOp c false h s) four
  halfOp c k true h.castSucc
  halfOp c k false h.castSucc

/-- The handshake with both neighbours. -/
def meetOp (c : Dev nD) : Prog (TpuEff nD τ sig (Elt F) Λ₀ .tc) PUnit := do
  semSignalWord (toDev false c) barS 1#32
  semSignalWord (toDev true c) barS 1#32
  semWaitWord barS 2#32

/-- The body after the handshake, at the product `k` of the two scales. -/
def mainOp (c : Dev nD) (k : F .f32) : Prog (TpuEff nD τ sig (Elt F) Λ₀ .tc) PUnit := do
  forL (sendOp c true 0) four
  forL (sendOp c false 0) four
  ownOp c k
  forL (hopOp c k) [0, 1, 2, 3, 4, 5]
  forL (recvOp true 6) four
  forL (recvOp false 6) four
  halfOp c k true 6
  halfOp c k false 6
  forL (fun h => forL (doneOp true h) four) [0, 1, 2, 3, 4, 5, 6]
  forL (fun h => forL (doneOp false h) four) [0, 1, 2, 3, 4, 5, 6]

/-- The whole body. -/
def body : Prog (TpuEff nD τ sig (Elt F) Λ₀ .tc) PUnit := do
  let c : Dev nD ← Prog.lift .deviceId
  meetOp c
  let a : Elt F .f32 ← smemLoad sxM (Rect.unit (s := S1) ![0] S1.size inb_S1_S1_0) numel1_S1 rfl
  let b : Elt F .f32 ← smemLoad swM (Rect.unit (s := S1) ![0] S1.size inb_S1_S1_0) numel1_S1 rfl
  mainOp c (Scalar.mulf a b)

set_option maxRecDepth 65536 in
/-- The printed body, on the staging buffers and the kernel's own buffers and semaphores, is the program above. -/
theorem body_eq :
    cc0_body (F := F) xM (Memref.isWhole_whole _) wM (Memref.isWhole_whole _) sxM (Memref.isWhole_whole _) swM (Memref.isWhole_whole _)
      oM (Memref.isWhole_whole _) (Memref.whole cc0_scratch0) (Memref.isWhole_whole _) (Memref.whole cc0_scratch1) (Memref.isWhole_whole _)
      cc0_scratch2 cc0_scratch3 cc0_scratch4 cc0_scratch5 = body (F := F) := by
  chain_rfl

end Cert.KernelIdeal.Ring

end
-- ==== Proof.KernelIdeal.Memory.lean ====
/- The landing buffers and the device's rows, piece by piece.

   Where a piece lies in its landing buffer, where its rows lie in `x`, that the pieces of a buffer are disjoint and
   fill it, and what a landing buffer holds once its pieces have arrived: piece `s` of hop `h` is the rows, on that
   direction's half, of the device `h + 1` places up the direction. A copy of a hop's source into the next device's
   piece leaves exactly that there. -/
module

public import proofs.«01_k».proof.Proof.KernelIdeal.Program
public import Idealize.ShloMosaic.Lib.ValueLayout

@[expose] public section

noncomputable section

namespace Cert.KernelIdeal.Ring

open Cert.KernelIdeal Cert.KernelIdeal.Gen Idealize.ShloMosaic Idealize.ShloMosaic.TcCoe Idealize.ShloMosaic.ValueIdx Idealize.SL.Sem

variable {F : FTy → Type} [FloatOps F]

/-! ## The ring -/

/-- Sending one way and then the other comes back. -/
theorem toDev_back : ∀ (d : Bool) (c : Dev nD), toDev (!d) (toDev d c) = c := by decide +kernel
theorem toDev_back' (d : Bool) (c : Dev nD) : toDev d (toDev (!d) c) = c := by
  have := toDev_back (!d) c; rwa [Bool.not_not] at this

/-- The ring as a permutation of the devices. -/
def ring (d : Bool) : Dev nD ≃ Dev nD := ⟨toDev d, toDev (!d), toDev_back d, toDev_back' d⟩

set_option backward.proofsInPublic true in
/-- The device whose rows arrive at `c` at hop `h`. -/
def org (d : Bool) (h : Fin 7) (c : Dev nD) : Dev nD :=
  match d with
  | true => ⟨(c.val + 7 - h.val) % 8, Nat.mod_lt _ (by decide)⟩
  | false => ⟨(c.val + 1 + h.val) % 8, Nat.mod_lt _ (by decide)⟩

/-- At hop 0 the next device gets the sender's own rows. -/
theorem org_zero : ∀ (d : Bool) (c : Dev nD), org d 0 (toDev d c) = c := by decide +kernel
/-- At a later hop it gets what the sender got one hop before. -/
theorem org_succ : ∀ (d : Bool) (h : Fin 6) (c : Dev nD), org d h.succ (toDev d c) = org d h.castSucc c := by decide +kernel
/-- No device gets its own rows. -/
theorem org_ne : ∀ (d : Bool) (h : Fin 7) (c : Dev nD), org d h c ≠ c := by decide +kernel

/-! ## Contents -/

theorem xoff_lt : ∀ (d : Bool) (s : Fin 4) (r : Fin 64), xoff d s + r.val < 512 := by decide

/-- Row `r` of piece `s` of a direction's half of `x`. -/
def rowsOf (d : Bool) (x : Vec F S512x4096 .i8) (s : Fin 4) (r : Fin 64) (k : Fin 4096) : Elt F .i8 :=
  x (ix2 (⟨xoff d s + r.val, xoff_lt d s r⟩ : Fin 512) k)

/-- A direction's half of `x` in the shape a hop's rows are loaded in. -/
def halfRows (d : Bool) (x : Vec F S512x4096 .i8) : Vec F S1x4x64x4096 .i8 := fun y => rowsOf d x (y 1) (y 2) (y 3)

theorem rowsOf_congr (d : Bool) (Y : Dev nD → Vec F S512x4096 .i8) (f : Fin 7 → Dev nD) {h h' : Fin 7} {s s' : Fin 4} {r r' : Fin 64} {k k' : Fin 4096}
    (eh : h.val = h'.val) (es : s.val = s'.val) (er : r.val = r'.val) (ek : k.val = k'.val) :
    rowsOf d (Y (f h)) s r k = rowsOf d (Y (f h')) s' r' k' := by
  cases Fin.ext eh; cases Fin.ext es; cases Fin.ext er; cases Fin.ext ek; rfl

variable (X : Dev nD → Vec F S512x4096 .i8)

/-- What the landing buffer of `c` holds when every piece has arrived, -/
def vals (d : Bool) (c : Dev nD) : Vec F S7x4x64x4096 .i8 := fun y => rowsOf d (X (org d (y 0) c)) (y 1) (y 2) (y 3)
/-- as contents of that buffer. -/
def landed (d : Bool) (c : Dev nD) : (comm d).view.ty.Contents (Elt F) :=
  match d with
  | true => vals X true c
  | false => vals X false c

theorem read_landed (d : Bool) (c : Dev nD) : (comm d).view.read (Elt F) (landed X d c) = vals X d c := by
  cases d
  · exact View.read_whole (Val := Elt F) cc0_scratch1 _
  · exact View.read_whole (Val := Elt F) cc0_scratch0 _

/-! ## The pieces -/

/-- The elements of the landing buffer under piece `s` of hop `h`, -/
def pset (d : Bool) (h : Fin 7) (s : Fin 4) : Finset (comm d).view.ty.Idx := (piece d h s).view.set
/-- and those of `x` under piece `s` of hop 0. -/
def xset (d : Bool) (s : Fin 4) : Finset S512x4096.Idx := (xrow d s).view.set

abbrev pieceRect (h : Fin 7) (s : Fin 4) : Rect S7x4x64x4096 :=
  Rect.unit (s := S7x4x64x4096) ![h.val, s.val, 0, 0] S1x1x64x4096.size (inb_piece h s)
abbrev xrowRect (d : Bool) (s : Fin 4) : Rect S512x4096 := Rect.unit (s := S512x4096) ![xoff d s, 0] S64x4096.size (inb_x d s)

theorem pset_eq (d : Bool) (h : Fin 7) (s : Fin 4) : pset d h s = (comm d).view.setOn (pieceRect h s).set := by
  exact (View.set_reshape ((comm d).view.slice (pieceRect h s)) squeezes_S1x1x64x4096_S64x4096.numel_eq).trans (View.set_slice _ _)
theorem xset_eq (d : Bool) (s : Fin 4) : xset d s = (xrowRect d s).set := View.set_slice_whole cc0_stg0_0 _

theorem mem_pieceRect {h : Fin 7} {s : Fin 4} {y : S7x4x64x4096.Idx} :
    y ∈ (pieceRect h s).set ↔ (y 0 : Fin 7) = h ∧ (y 1 : Fin 4) = s := by
  rw [Rect.mem_set_unit]
  constructor
  · intro hy
    have h0 := hy 0; have h1 := hy 1
    exact ⟨Fin.ext (Nat.le_antisymm (Nat.lt_succ_iff.mp h0.2) h0.1), Fin.ext (Nat.le_antisymm (Nat.lt_succ_iff.mp h1.2) h1.1)⟩
  · rintro ⟨rfl, rfl⟩ a
    fin_cases a
    · exact ⟨le_refl _, Nat.lt_succ_self _⟩
    · exact ⟨le_refl _, Nat.lt_succ_self _⟩
    · exact ⟨Nat.zero_le _, by have := (y 2).isLt; exact (Nat.zero_add _).symm ▸ this⟩
    · exact ⟨Nat.zero_le _, by have := (y 3).isLt; exact (Nat.zero_add _).symm ▸ this⟩

theorem mem_pset {d : Bool} {h : Fin 7} {s : Fin 4} {y : S7x4x64x4096.Idx} :
    (comm d).view.emb y ∈ pset d h s ↔ (y 0 : Fin 7) = h ∧ (y 1 : Fin 4) = s := by
  rw [pset_eq]; exact (View.mem_setOn _).trans mem_pieceRect

theorem pset_disjoint (d : Bool) {h h' : Fin 7} {s s' : Fin 4} (hne : ¬ (h = h' ∧ s = s')) : Disjoint (pset d h s) (pset d h' s') := by
  rw [pset_eq, pset_eq]
  refine (Finset.disjoint_map _).mpr (Finset.disjoint_left.mpr fun y hy hy' => hne ?_)
  rw [mem_pieceRect] at hy hy'
  exact ⟨hy.1.symm.trans hy'.1, hy.2.symm.trans hy'.2⟩

theorem comm_set (d : Bool) : (comm d).view.set = Finset.univ := by
  cases d
  · exact View.set_whole cc0_scratch1
  · exact View.set_whole cc0_scratch0

/-- The pieces fill the landing buffer. -/
theorem pset_univ (d : Bool) : (Finset.univ.biUnion fun h : Fin 7 => Finset.univ.biUnion fun s : Fin 4 => pset d h s) = Finset.univ := by
  refine Finset.eq_univ_of_forall fun i => ?_
  have hi : i ∈ (comm d).view.set := by rw [comm_set]; exact Finset.mem_univ i
  obtain ⟨y, -, rfl⟩ := Finset.mem_map.mp hi
  refine Finset.mem_biUnion.mpr ⟨y 0, Finset.mem_univ _, Finset.mem_biUnion.mpr ⟨y 1, Finset.mem_univ _, ?_⟩⟩
  exact mem_pset.mpr ⟨rfl, rfl⟩

/-- A hop's load reads the four pieces of that hop. -/
theorem hop_subset (d : Bool) (h : Fin 7) :
    (comm d).view.setOn (hopRect h).toLoadRect.set ⊆ Finset.univ.biUnion fun s : Fin 4 => pset d h s := by
  intro i hi
  obtain ⟨y, hy, rfl⟩ := Finset.mem_map.mp hi
  have h0 := (Rect.mem_set_unit.mp hy) 0
  refine Finset.mem_biUnion.mpr ⟨y 1, Finset.mem_univ _, ?_⟩
  exact mem_pset.mpr ⟨Fin.ext (Nat.le_antisymm (Nat.lt_succ_iff.mp h0.2) h0.1), rfl⟩

theorem mem_xrowRect {d : Bool} {s : Fin 4} {y : S512x4096.Idx} :
    y ∈ (xrowRect d s).set ↔ xoff d s ≤ (y 0).val ∧ (y 0).val < xoff d s + 64 := by
  rw [Rect.mem_set_unit]
  constructor
  · intro hy; exact hy 0
  · intro hy a
    fin_cases a
    · exact hy
    · exact ⟨Nat.zero_le _, by have := (y 1).isLt; exact (Nat.zero_add _).symm ▸ this⟩

theorem xset_disjoint {d d' : Bool} {s s' : Fin 4} (hne : ¬ (d = d' ∧ s = s')) : Disjoint (xset d s) (xset d' s') := by
  rw [xset_eq, xset_eq]
  refine Finset.disjoint_left.mpr fun y hy hy' => hne ?_
  rw [mem_xrowRect] at hy hy'
  cases d <;> cases d' <;> simp only [xoff] at hy hy'
  · exact ⟨rfl, by omega⟩
  · omega
  · omega
  · exact ⟨rfl, by omega⟩

/-- The rows of both directions' pieces are all of `x`. -/
theorem xset_univ : (Finset.univ.biUnion fun d : Bool => Finset.univ.biUnion fun s : Fin 4 => xset d s)
    = (Finset.univ : Finset S512x4096.Idx) := by
  refine Finset.eq_univ_of_forall fun (i : S512x4096.Idx) => ?_
  have hi : (i 0).val < 512 := (i 0).isLt
  by_cases h : (i 0).val < 256
  · refine Finset.mem_biUnion.mpr ⟨true, Finset.mem_univ _, Finset.mem_biUnion.mpr ⟨(⟨(i 0).val / 64, by omega⟩ : Fin 4), Finset.mem_univ _, ?_⟩⟩
    rw [xset_eq, mem_xrowRect]; simp only [xoff]; omega
  · refine Finset.mem_biUnion.mpr ⟨false, Finset.mem_univ _, Finset.mem_biUnion.mpr ⟨(⟨((i 0).val - 256) / 64, by omega⟩ : Fin 4), Finset.mem_univ _, ?_⟩⟩
    rw [xset_eq, mem_xrowRect]; simp only [xoff]; omega

/-! ## Reads through them -/

/-- A landed piece read through its memref. -/
theorem read_piece (d : Bool) (h : Fin 7) (s : Fin 4) (c : Dev nD) :
    (piece d h s).view.read (Elt F) (landed X d c) = fun z : S64x4096.Idx => rowsOf d (X (org d h c)) s (z 0) (z 1) := by
  funext z
  obtain ⟨r, k, rfl⟩ : ∃ (r : Fin 64) (k : Fin 4096), z = ix2 r k := ⟨z 0, z 1, eq_ix2 z⟩
  have e := congrFun (read_landed X d c) ((pieceRect h s).emb (Shape.reshapeEquiv (s' := S64x4096) squeezes_S1x1x64x4096_S64x4096.numel_eq (ix2 r k)))
  refine Eq.trans (show _ = _ from rfl) (e.trans ?_)
  rw [reshapeEquiv_ix2_11ab]
  exact rowsOf_congr d X (fun h => org d h c) (by show h.val + 1 * 0 = h.val; omega) (by show s.val + 1 * 0 = s.val; omega)
    (by show 0 + 1 * r.val = r.val; omega) (by show 0 + 1 * k.val = k.val; omega)

/-- The rows a piece of hop 0 is sent from. -/
theorem read_xrow (d : Bool) (s : Fin 4) (x : Vec F S512x4096 .i8) :
    (xrow d s).view.read (Elt F) x = fun z : S64x4096.Idx => rowsOf d x s (z 0) (z 1) := by
  funext z
  refine congrArg x ?_
  refine funext fun a => ?_
  fin_cases a
  · exact Fin.ext (by show xoff d s + 1 * (z 0).val = xoff d s + (z 0).val; omega)
  · exact Fin.ext (by show 0 + 1 * (z 1).val = (z 1).val; omega)

/-- The contents hop `h` sends from. -/
def srcBuf (d : Bool) : (h : Fin 7) → (s : Fin 4) → Dev nD → (src d h s).view.ty.Contents (Elt F)
  | ⟨0, _⟩, _, c => X c
  | ⟨_ + 1, _⟩, _, c => landed X d c

/-- What hop `h` sends is what lands on the next device. -/
theorem read_src (d : Bool) (h : Fin 7) (s : Fin 4) (c : Dev nD) :
    (src d h s).view.read (Elt F) (srcBuf X d h s c) = (piece d h s).view.read (Elt F) (landed X d (toDev d c)) := by
  rw [read_piece]
  obtain ⟨n, hn⟩ := h
  cases n with
  | zero =>
    refine (read_xrow d s (X c)).trans ?_
    rw [show (⟨0, hn⟩ : Fin 7) = 0 from rfl, org_zero]
  | succ n =>
    refine (read_piece X d ⟨n, Nat.lt_of_succ_lt hn⟩ s c).trans ?_
    have := org_succ d ⟨n, Nat.succ_lt_succ_iff.mp hn⟩ c
    rw [show (⟨n + 1, hn⟩ : Fin 7) = Fin.succ ⟨n, Nat.succ_lt_succ_iff.mp hn⟩ from rfl, this]
    rfl

/-- The copy leaves the landed contents on the piece. -/
theorem copy_landed (d : Bool) (h : Fin 7) (s : Fin 4) (c : Dev nD) (fd : (piece d h s).view.ty.Contents (Elt F)) :
    ∀ i ∈ (piece d h s).view.set,
      (piece d h s).view.write (Elt F) fd ((src d h s).view.read (Elt F) (srcBuf X d h s c)) Finset.univ i = landed X d (toDev d c) i := by
  intro i hi
  obtain ⟨z, -, rfl⟩ := Finset.mem_map.mp hi
  have e := congrFun ((View.read_write_univ (v := (piece d h s).view) fd ((src d h s).view.read (Elt F) (srcBuf X d h s c))).trans (read_src X d h s c)) z
  exact (cast_inj _).mp e

/-- A hop's load gives that direction's half of the rows of the device they come from. -/
theorem read_hop (d : Bool) (h : Fin 7) (c : Dev nD) :
    (comm d).view.readAt (Elt F) (hopRect h).toLoadRect (landed X d c) = halfRows d (X (org d h c)) := by
  funext y
  rw [View.readAt_apply, read_landed]
  have y0 : (y 0 : Fin 1).val = 0 := by have := (y 0).isLt; exact Nat.lt_one_iff.mp this
  exact rowsOf_congr d X (fun h => org d h c) (by show h.val + 1 * (y 0 : Fin 1).val = h.val; omega)
    (by show 0 + 1 * (y 1 : Fin 4).val = (y 1 : Fin 4).val; omega) (by show 0 + 1 * (y 2 : Fin 64).val = (y 2 : Fin 64).val; omega)
    (by show 0 + 1 * (y 3 : Fin 4096).val = (y 3 : Fin 4096).val; omega)

/-! ## The transfers' amounts -/

/-- What a piece's transfer counts on its semaphores. -/
abbrev N : ℕ := (piece true 0 0).view.dmaCredit
theorem N_pos : 0 < N := View.dmaCredit_pos _ (by decide)
theorem credit_piece : ∀ (d : Bool) (h : Fin 7) (s : Fin 4), (piece d h s).view.dmaCredit = N
  | true, _, _ => rfl
  | false, _, _ => rfl
theorem credit_src (d : Bool) : ∀ (h : Fin 7) (s : Fin 4), (src d h s).view.dmaCredit = N
  | ⟨0, _⟩, _ => rfl
  | ⟨n + 1, hn⟩, s => credit_piece d ⟨n, Nat.lt_of_succ_lt hn⟩ s

end Cert.KernelIdeal.Ring

end
-- ==== Proof.KernelIdeal.Protocol.lean ====
/- The protocol between the devices.

   Every device has a barrier cell, and for either direction, every hop and every piece a send cell and an arrival
   cell. Each has one round. A barrier cell is paid a unit by each neighbour, and the neighbour it sends to in
   direction `d` hands over, with that unit, its landing buffer of direction `d`. An arrival cell is paid by the
   transfer that fills its piece and hands over that piece holding the landed rows; a send cell is paid by the same
   transfer and hands the lent share of the source back.

   A device owes the next devices the arrivals of all its sends, listed in the order the body makes them, so that
   each send pays the head of the list. Waits are ordered by levels: the barrier below every arrival, the arrivals by
   their hop. -/
module

public import proofs.«01_k».proof.Proof.KernelIdeal.Memory
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A transfer: its direction, its hop and its piece. -/
abbrev Xfer : Type := Bool × Fin 7 × Fin 4
/-- The names of a device's cells: its barrier, the arrival cell (`true`) and the send cell (`false`) of each transfer. -/
abbrev Key : Type := Option (Bool × Xfer)

/-- The semaphore of a transfer's cell, -/
def osem : Bool × Xfer → SemLoc sig
  | (true, d, h, s) => .dma (rSem d h s)
  | (false, d, h, s) => .dma (sSem d h s)
/-- and of any cell. -/
def csem : Key → SemLoc sig
  | none => .reg barS
  | some k => osem k

/-- Where a transfer's semaphore lies among the DMA semaphores. -/
def osemIdx : Bool × Xfer → Nat
  | (b, d, h, s) => 5 + (if d then 0 else 56) + (if b then 28 else 0) + 4 * h.val + s.val

theorem rSem_val : ∀ (d : Bool) (h : Fin 7) (s : Fin 4), (rSem d h s).val = osemIdx (true, d, h, s) := by decide +kernel
theorem sSem_val : ∀ (d : Bool) (h : Fin 7) (s : Fin 4), (sSem d h s).val = osemIdx (false, d, h, s) := by decide +kernel

theorem osemIdx_inj : Function.Injective osemIdx := by
  rintro ⟨b, d, h, s⟩ ⟨b', d', h', s'⟩ e
  have h1 := h.isLt; have h2 := h'.isLt; have s1 := s.isLt; have s2 := s'.isLt
  unfold osemIdx at e
  cases b <;> cases b' <;> cases d <;> cases d' <;> simp only [if_true, if_false, Bool.false_eq_true] at e
  all_goals first
    | omega
    | (have eh : h = h' := Fin.ext (by omega)
       have es : s = s' := Fin.ext (by omega)
       rw [eh, es])

theorem osem_dma (k : Bool × Xfer) : ∃ q : DmaSem sig, osem k = .dma q ∧ q.val = osemIdx k := by
  obtain ⟨b, d, h, s⟩ := k
  cases b
  · exact ⟨sSem d h s, rfl, sSem_val d h s⟩
  · exact ⟨rSem d h s, rfl, rSem_val d h s⟩

theorem osem_inj : Function.Injective osem := by
  intro k k' e
  obtain ⟨q, e1, v1⟩ := osem_dma k
  obtain ⟨q', e2, v2⟩ := osem_dma k'
  have hq : q = q' := by
    have := e1.symm.trans (e.trans e2)
    injection this
  exact osemIdx_inj (v1.symm.trans ((congrArg Fin.val hq).trans v2))

theorem osem_ne_bar (k : Bool × Xfer) : osem k ≠ .reg barS := by
  obtain ⟨q, e, -⟩ := osem_dma k
  rw [e]; intro h; cases h

theorem csem_inj : Function.Injective csem := by
  intro k k' e
  cases k with
  | none => cases k' with
    | none => rfl
    | some k' => exact absurd e.symm (osem_ne_bar k')
  | some k => cases k' with
    | none => exact absurd e (osem_ne_bar k)
    | some k' => exact congrArg some (osem_inj e)

/-- The transfers' semaphores are scoped, distinct and no staging semaphore. -/
theorem ownSemFacts : Pipeline.OwnSemFacts cfg0.spec osem where
  isScoped := by decide +kernel
  inj := osem_inj
  disj := by decide +kernel

/-- Cell `k` of device `c`. -/
abbrev cell (c : Dev nD) (k : Key) : GSem nD τ sig := ((c : Thread nD τ), csem k)
abbrev barCell (c : Dev nD) : GSem nD τ sig := cell c none
abbrev recvCell (c : Dev nD) (e : Xfer) : GSem nD τ sig := cell c (some (true, e))
abbrev sendCell (c : Dev nD) (e : Xfer) : GSem nD τ sig := cell c (some (false, e))

theorem cell_inj {c c' : Dev nD} {k k' : Key} (h : cell c k = cell c' k') : c = c' ∧ k = k' :=
  ⟨congrArg (fun g : GSem nD τ sig => g.1.1) h, csem_inj (congrArg Prod.snd h)⟩

open Classical in
/-- The name of the cell a semaphore is, if it is one of ours. -/
def keyOf (sm : SemLoc sig) : Option Key := if h : ∃ k, csem k = sm then some h.choose else none
theorem keyOf_csem (k : Key) : keyOf (csem k) = some k := by
  have h : ∃ k', csem k' = csem k := ⟨k, rfl⟩
  unfold keyOf; rw [dif_pos h, csem_inj h.choose_spec]
theorem keyOf_none {sm : SemLoc sig} (h : ∀ k, csem k ≠ sm) : keyOf sm = none := by
  unfold keyOf; exact dif_neg fun ⟨k, e⟩ => h k e

/-! ## What the cells hand over -/

variable (X : Dev nD → Vec F S512x4096 .i8)

/-- A landed piece of `c`'s buffer at share `q`. -/
def piecePts (c : Dev nD) (d : Bool) (h : Fin 7) (s : Fin 4) (q : PosShare TreeShare) : sProp 𝕄 :=
  (comm d).view.loc (c : Thread nD τ) ↦[pset d h s]{q} landed X d c
/-- A piece of `c`'s buffer at any contents. -/
def freePts (c : Dev nD) (d : Bool) (h : Fin 7) (s : Fin 4) : sProp 𝕄 :=
  iprop(∃ f : Buf (Elt F) ((comm d).view.loc (c : Thread nD τ)), (comm d).view.loc (c : Thread nD τ) ↦[pset d h s]{fullShare} f)
/-- The share of a transfer's source that is lent to it. -/
def srcPts (c : Dev nD) (d : Bool) (h : Fin 7) (s : Fin 4) : sProp 𝕄 :=
  (src d h s).view.loc (c : Thread nD τ) ↦[(src d h s).view.set]{fullShare.right} srcBuf X d h s c
/-- The whole landing buffer of `c` at any contents. -/
def commPts (c : Dev nD) (d : Bool) : sProp 𝕄 :=
  iprop(∃ f : Buf (Elt F) ((comm d).view.loc (c : Thread nD τ)), (comm d).view.loc (c : Thread nD τ) ↦{fullShare} f)

omit [FloatOps F] in
instance piecePts_storable (c d h s q) : BI.Storable (upEmb : UEmb _ 𝕄) (piecePts (F := F) X c d h s q) := by unfold piecePts; infer_instance
omit [FloatOps F] in
instance srcPts_storable (c d h s) : BI.Storable (upEmb : UEmb _ 𝕄) (srcPts (F := F) X c d h s) := by unfold srcPts; infer_instance
omit [FloatOps F] in
instance commPts_storable (c d) : BI.Storable (upEmb : UEmb _ 𝕄) (commPts (F := F) c d) := by unfold commPts; infer_instance

/-- A later hop's source is the piece that landed one hop before. -/
theorem srcPts_succ (c : Dev nD) (d : Bool) (h : Fin 6) (s : Fin 4) : srcPts X c d h.succ s = piecePts X c d h.castSucc s fullShare.right := by
  obtain ⟨n, hn⟩ := h; rfl

def keyDuties : Option Key → Finset Bool
  | some none => Finset.univ
  | some (some _) => {false}
  | none => ∅
def keyAmount : Option Key → ℕ
  | some (some _) => N
  | _ => 1
def keyPay (c : Dev nD) (b : Bool) : Option Key → sProp 𝕄
  | some none => commPts (toDev b c) b
  | some (some (true, d, h, s)) => piecePts X c d h s fullShare
  | some (some (false, d, h, s)) => srcPts X c d h s
  | none => iprop(emp)

instance keyPay_storable (c : Dev nD) (b : Bool) : ∀ o, BI.Storable (upEmb : UEmb _ 𝕄) (keyPay X c b o)
  | some none => by unfold keyPay; infer_instance
  | some (some (true, d, h, s)) => by unfold keyPay; infer_instance
  | some (some (false, d, h, s)) => by unfold keyPay; infer_instance
  | none => by unfold keyPay; infer_instance

/-- The schedule: one round per cell. -/
def rd : Rounds.Schedule (GSem nD τ sig) Bool 𝕄 where
  duties g r := if r = 0 ∧ g.1.2 = .tc then keyDuties (keyOf g.2) else ∅
  unitless _ := False
  amount g _ _ := keyAmount (keyOf g.2)
  payload g _ b := keyPay X g.1.1 b (keyOf g.2)
  amount_pos g _ _ _ := by
    unfold keyAmount; split
    · exact N_pos
    · exact Nat.one_pos

instance rd_payload_storable (g : GSem nD τ sig) (r : ℕ) (b : Bool) : BI.Storable (upEmb : UEmb _ 𝕄) ((rd (F := F) X).payload g r b) :=
  keyPay_storable X g.1.1 b (keyOf g.2)

theorem duties_cell (c : Dev nD) (k : Key) : (rd (F := F) X).duties (cell c k) 0 = keyDuties (some k) := by
  dsimp only [rd]; rw [if_pos ⟨rfl, rfl⟩, keyOf_csem]
theorem duties_later (g : GSem nD τ sig) : ∀ r, 1 ≤ r → (rd (F := F) X).duties g r = ∅ :=
  fun r hr => by dsimp only [rd]; exact if_neg fun h => by omega
theorem amount_cell (c : Dev nD) (k : Key) (b : Bool) : (rd (F := F) X).amount (cell c k) 0 b = keyAmount (some k) := by
  dsimp only [rd]; rw [keyOf_csem]
theorem payload_cell (c : Dev nD) (k : Key) (b : Bool) : (rd (F := F) X).payload (cell c k) 0 b = keyPay X c b (some k) := by
  dsimp only [rd]; rw [keyOf_csem]

theorem expect_bar (c : Dev nD) : (rd (F := F) X).expect (barCell c) 0 = 2 := by
  unfold Schedule.expect Schedule.amountOf
  rw [duties_cell, Finset.sum_congr rfl fun d _ => amount_cell X c none d]
  rfl
theorem expect_xfer (c : Dev nD) (k : Bool × Xfer) : (rd (F := F) X).expect (cell c (some k)) 0 = N := by
  unfold Schedule.expect Schedule.amountOf
  rw [duties_cell, show keyDuties (some (some k)) = {false} from rfl, Finset.sum_singleton, amount_cell]; rfl

theorem rest_bar (c : Dev nD) : bigSep ((rd (F := F) X).duties (barCell c) 0 \ ∅) (fun b => (rd (F := F) X).payload (barCell c) 0 b)
    = iprop(commPts (toDev true c) true ∗ commPts (toDev false c) false) := by
  rw [Finset.sdiff_empty, duties_cell, show keyDuties (some none) = Finset.univ from rfl,
    bigSep_univ_eq_bigSepL [true, false] (by decide) (by decide), bigSepL_cons_cons, bigSepL_singleton, payload_cell, payload_cell]
  rfl
theorem rest_xfer (c : Dev nD) (k : Bool × Xfer) :
    bigSep ((rd (F := F) X).duties (cell c (some k)) 0 \ ∅) (fun b => (rd (F := F) X).payload (cell c (some k)) 0 b) = keyPay X c false (some (some k)) := by
  rw [Finset.sdiff_empty, duties_cell, show keyDuties (some (some k)) = {false} from rfl, bigSep_singleton, payload_cell]

/-! ## What a device owes, and the levels -/

/-- The arrivals a device owes for a list of sends still to be made. -/
def owedL (c : Dev nD) : List Xfer → CellTallies nD τ sig Unit
  | [] => 0
  | e :: l => owedL c l + tallyAt (recvCell (toDev e.1 c) e) () N

def sendsAt (h : Fin 7) (ss : List (Fin 4)) : List Xfer := ss.flatMap fun s => [(true, h, s), (false, h, s)]
def hopSends (hs : List (Fin 6)) : List Xfer := hs.flatMap fun h => sendsAt h.succ four
abbrev six : List (Fin 6) := [0, 1, 2, 3, 4, 5]
abbrev seven : List (Fin 7) := [0, 1, 2, 3, 4, 5, 6]
/-- All the sends, in the body's order. -/
def allSends : List Xfer := four.map (fun s => (true, (0 : Fin 7), s)) ++ (four.map (fun s => (false, (0 : Fin 7), s)) ++ hopSends six)

/-- At launch: all the arrivals, and a unit to either neighbour's barrier. -/
def O₁ (c : Dev nD) : CellTallies nD τ sig Unit := owedL c allSends + tallyAt (barCell (toDev true c)) () 1
def O₀ (c : Dev nD) : CellTallies nD τ sig Unit := O₁ c + tallyAt (barCell (toDev false c)) () 1

def L (g : GSem nD τ sig) : Finset Unit := if g.1.2 = .tc then {()} else ∅
def keyLev : Option Key → ℕ
  | some none => 1
  | some (some (true, _, h, _)) => 2 + h.val
  | _ => 0
def lv (g : GSem nD τ sig) (_ : Unit) : ℕ := keyLev (keyOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Key) (u : Unit) : lv (cell c k) u = keyLev (some k) := by unfold lv; rw [keyOf_csem]

theorem tally_pos {O : CellTallies nD τ sig Unit} {g g' : GSem nD τ sig} {u : Unit} {n : ℕ} (h : 0 < (O + tallyAt g' () n) g u) : 0 < O g u ∨ g = g' := by
  rw [Pi.add_apply, Finsupp.add_apply, tallyAt_apply] at h
  by_cases hg : g = g' ∧ u = ()
  · exact Or.inr hg.1
  · rw [if_neg hg, Nat.add_zero] at h; exact Or.inl h

theorem owedL_pos {c : Dev nD} {g : GSem nD τ sig} {u : Unit} : ∀ {l : List Xfer}, 0 < owedL c l g u → ∃ e ∈ l, g = recvCell (toDev e.1 c) e
  | [], h => absurd h (Nat.lt_irrefl 0)
  | e :: l, h => by
    rcases tally_pos h with h | hg
    · obtain ⟨e', he', hge⟩ := owedL_pos h
      exact ⟨e', List.mem_cons_of_mem _ he', hge⟩
    · exact ⟨e, List.mem_cons_self, hg⟩

theorem O₀_pos {c : Dev nD} {g : GSem nD τ sig} {u : Unit} (h : 0 < O₀ c g u) :
    (∃ e ∈ allSends, g = recvCell (toDev e.1 c) e) ∨ g = barCell (toDev true c) ∨ g = barCell (toDev false c) := by
  rcases tally_pos h with h | h
  · rcases tally_pos h with h | h
    · exact Or.inl (owedL_pos h)
    · exact Or.inr (Or.inl h)
  · exact Or.inr (Or.inr h)

/-- A wait at a level below those of all the arrivals still owed is allowed. -/
theorem mayWait_owedL (c : Dev nD) (k : Key) (l : List Xfer) (hl : ∀ e ∈ l, keyLev (some k) < 2 + e.2.1.val) :
    (levAts L lv : sProp 𝕄) ⊢ MayWait (c : Thread nD τ) (csem k) () (owedL c l) :=
  MayOwe.of_cut (L := L) (lev := lv) (keyLev (some k)) (fun p hp => by rw [Finset.mem_singleton.mp hp, L_tc]; exact Finset.mem_singleton_self _)
    (fun g u hg => by obtain ⟨e, -, rfl⟩ := owedL_pos hg; exact Finset.mem_singleton_self _)
    (fun p hp => by rw [Finset.mem_singleton.mp hp]; exact (lv_cell c k ()).le)
    (fun g u hg => by obtain ⟨e, he, rfl⟩ := owedL_pos hg; rw [lv_cell]; exact hl e he)

/-- A wait for a staging transfer is below everything. -/
theorem mayWait_stage (c : Dev nD) (q : DmaSem sig) (hq : ∀ k, osem k ≠ SemLoc.dma q) (O : CellTallies nD τ sig Unit) (hO : O = O₀ c ∨ O = 0) :
    (levAts L lv : sProp 𝕄) ⊢ MayWait (c : Thread nD τ) (.dma q) () O := by
  have hk : keyOf (.dma q) = none := keyOf_none fun k => by
    cases k with
    | none => intro h; cases h
    | some k => exact hq k
  rcases hO with rfl | rfl
  · refine MayOwe.of_cut (L := L) (lev := lv) 0 (fun p hp => by rw [Finset.mem_singleton.mp hp, L_tc]; exact Finset.mem_singleton_self _)
      (fun g u hg => by rcases O₀_pos hg with ⟨e, -, rfl⟩ | rfl | rfl <;> exact Finset.mem_singleton_self _)
      (fun p hp => by rw [Finset.mem_singleton.mp hp]; dsimp only [lv]; rw [hk]; exact le_refl _)
      (fun g u hg => by
        rcases O₀_pos hg with ⟨e, -, rfl⟩ | rfl | rfl
        · rw [lv_cell]; exact Nat.lt_of_lt_of_le (by decide : 0 < 2) (Nat.le_add_right 2 _)
        · rw [lv_cell]; exact Nat.one_pos
        · rw [lv_cell]; exact Nat.one_pos)
  · rw [MayWait_zero]; iintro -; iempintro

end Cert.KernelIdeal.Ring

end
-- ==== Proof.KernelIdeal.Steps.lean ====
/- One rule per kind of step of the body.

   Each rule takes what the step needs and gives back what it leaves: a send takes the right to fill a piece of the
   next device's buffer and a share of its source, and leaves a transfer in flight; an arrival takes a piece awaited
   and leaves it landed; a relay is the two in sequence; the wait for a send takes a transfer in flight and leaves its
   source share. A loop's rule threads an invariant through the steps and turns each step's resource into its result. -/
module

public import proofs.«01_k».proof.Proof.KernelIdeal.Protocol

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of device `c`'s body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Lists of resources, and loops -/

/-- The resources of a list's members, side by side. -/
def sepL {ι : Type} (Φ : ι → sProp 𝕄) : List ι → sProp 𝕄
  | [] => iprop(emp)
  | a :: l => iprop(Φ a ∗ sepL Φ l)

omit [FloatOps F] in
theorem sepL_congr {ι : Type} {Φ Ψ : ι → sProp 𝕄} (h : ∀ a, Φ a = Ψ a) (l : List ι) : sepL Φ l = sepL Ψ l := by
  rw [funext h]
omit [FloatOps F] in
theorem sepL_mono {ι : Type} {Φ Ψ : ι → sProp 𝕄} (h : ∀ a, Φ a ⊢ Ψ a) : ∀ l : List ι, sepL Φ l ⊢ sepL Ψ l
  | [] => Entails.refl _
  | a :: l => BI.sep_mono (h a) (sepL_mono h l)
omit [FloatOps F] in
theorem sepL_sep {ι : Type} (Φ Ψ : ι → sProp 𝕄) : ∀ l : List ι, sepL (fun a => iprop(Φ a ∗ Ψ a)) l = iprop(sepL Φ l ∗ sepL Ψ l)
  | [] => by
    exact BI.Entails.antisymm (sep_emp (PROP := sProp 𝕄)).2 (sep_emp (PROP := sProp 𝕄)).1
  | a :: l => by
    show iprop((Φ a ∗ Ψ a) ∗ sepL _ l) = iprop((Φ a ∗ sepL Φ l) ∗ (Ψ a ∗ sepL Ψ l))
    rw [sepL_sep Φ Ψ l]
    exact BI.Entails.antisymm (sep_sep_sep_comm (PROP := sProp 𝕄)).1 (sep_sep_sep_comm (PROP := sProp 𝕄)).1
omit [FloatOps F] in
theorem sepL_map {ι κ : Type} (f : ι → κ) (Φ : κ → sProp 𝕄) : ∀ l : List ι, sepL Φ (l.map f) = sepL (fun a => Φ (f a)) l
  | [] => rfl
  | a :: l => congrArg (fun r => iprop(Φ (f a) ∗ r)) (sepL_map f Φ l)
omit [FloatOps F] in
theorem sepL_bigSep {ι : Type} [DecidableEq ι] (Φ : ι → sProp 𝕄) : ∀ {l : List ι}, l.Nodup → sepL Φ l = bigSep l.toFinset Φ
  | [], _ => (bigSep_empty).symm
  | a :: l, h => by
    rw [List.toFinset_cons, bigSep_insert (by rw [List.mem_toFinset]; exact (List.nodup_cons.mp h).1), ← sepL_bigSep Φ (List.nodup_cons.mp h).2]
    rfl
omit [FloatOps F] in
theorem sepL_four (Φ : Fin 4 → sProp 𝕄) : sepL Φ four = bigSep Finset.univ Φ := by
  rw [sepL_bigSep Φ (by decide), show (four.toFinset : Finset (Fin 4)) = Finset.univ from by decide]
omit [FloatOps F] in
theorem sepL_seven (Φ : Fin 7 → sProp 𝕄) : sepL Φ seven = bigSep Finset.univ Φ := by
  rw [sepL_bigSep Φ (by decide), show (seven.toFinset : Finset (Fin 7)) = Finset.univ from by decide]

/-- A loop: an invariant over the members done (latest first) and those left, and a resource of each member turned
    into its result by that member's step. -/
theorem wp_forL {c : Dev nD} {ι : Type} (f : ι → Prog (TpuEff nD τ sig (Elt F) Λ₀ .tc) PUnit) (I : List ι → List ι → sProp 𝕄) (Φ Ψ : ι → sProp 𝕄)
    (l₀ : List ι)
    (step : ∀ done a rest, (a :: rest) <:+ l₀ → ∀ Q : PUnit → sProp 𝕄,
      iprop(I done (a :: rest) ∗ Φ a) ⊢ iprop(((I (a :: done) rest ∗ Ψ a) -∗ Q ⟨⟩) -∗ wpc c (f a) Q)) :
    ∀ (l done : List ι), l <:+ l₀ → ∀ Q : PUnit → sProp 𝕄,
      iprop(I done l ∗ sepL Φ l) ⊢ iprop(((I (l.reverse ++ done) [] ∗ sepL Ψ l) -∗ Q ⟨⟩) -∗ wpc c (forL f l) Q)
  | [], done, _, Q => by
    show iprop(I done [] ∗ emp) ⊢ iprop(((I done [] ∗ emp) -∗ Q ⟨⟩) -∗ wpc c (Prog.ret ⟨⟩) Q)
    iintro ⟨HI, He⟩ HQ
    rw [wpc, wp_ret]
    imodintro
    iapply HQ
    isplitl [HI] <;> iassumption
  | a :: l, done, hl, Q => by
    have ih := wp_forL f I Φ Ψ l₀ step l (a :: done) ((List.suffix_cons a l).trans hl) Q
    have e : (a :: l).reverse ++ done = l.reverse ++ (a :: done) := by rw [List.reverse_cons, List.append_assoc]; rfl
    rw [e]
    show iprop(I done (a :: l) ∗ Φ a ∗ sepL Φ l) ⊢ iprop(((I (l.reverse ++ (a :: done)) [] ∗ Ψ a ∗ sepL Ψ l) -∗ Q ⟨⟩) -∗ wpc c (f a >>= fun _ => forL f l) Q)
    iintro ⟨HI, Ha, Hl⟩ HQ
    rw [wpc, wp_bind]
    iapply (step done a l hl _) $$ [HI Ha]
    · isplitl [HI] <;> iassumption
    iintro ⟨HI, Hb⟩
    iapply ih $$ [HI Hl]
    · isplitl [HI] <;> iassumption
    iintro ⟨HI, Hl⟩
    iapply HQ
    isplitl [HI]; · iexact HI
    isplitl [Hb] <;> iassumption

/-! ## What the steps need -/

variable (X : Dev nD → Vec F S512x4096 .i8) (K : Dev nD × Key → ℕ)

/-- What every step may use again: the cells' invariants, that each cell is at its round, and the levels. -/
def ctx : sProp 𝕄 :=
  iprop((bigSep Finset.univ fun ck : Dev nD × Key => cellInv ER (rd X) (K ck) (cell ck.1 ck.2))
    ∗ (bigSep Finset.univ fun ck : Dev nD × Key => reached ER (cell ck.1 ck.2) 0) ∗ levAts L lv)
instance ctx_persistent : BI.Persistent (ctx X K) := by unfold ctx; infer_instance

theorem inv_at (ck : Dev nD × Key) :
    (bigSep Finset.univ fun ck : Dev nD × Key => (cellInv ER (rd X) (K ck) (cell ck.1 ck.2) : sProp 𝕄)) ⊢ cellInv ER (rd X) (K ck) (cell ck.1 ck.2) :=
  bigSep_elim (Finset.mem_univ ck)
omit [FloatOps F] in
theorem reached_at (ck : Dev nD × Key) :
    (bigSep Finset.univ fun ck : Dev nD × Key => (reached ER (cell ck.1 ck.2) 0 : sProp 𝕄)) ⊢ reached ER (cell ck.1 ck.2) 0 :=
  bigSep_elim (Finset.mem_univ ck)
theorem ctx_inv (c : Dev nD) (k : Key) : ctx X K ⊢ cellInv ER (rd X) (K (c, k)) (cell c k) := by
  unfold ctx
  iintro ⟨H, -, -⟩
  iapply (inv_at X K (c, k))
  iexact H
theorem ctx_reached (c : Dev nD) (k : Key) : ctx X K ⊢ reached ER (cell c k) 0 := by
  unfold ctx
  iintro ⟨-, H, -⟩
  iapply (reached_at (F := F) (c, k))
  iexact H
theorem ctx_lev : ctx X K ⊢ levAts L lv := by
  unfold ctx
  iintro ⟨-, -, H⟩
  iexact H

/-- What device `c` owes, whatever it has waited for. -/
def owesE (c : Dev nD) (O : CellTallies nD τ sig Unit) : sProp 𝕄 := iprop(∃ W, owes (c : Thread nD τ) O W)

/-- A transfer not yet started: the two duties it pays, its send cell's position and the piece it fills. -/
def unsent (c : Dev nD) (d : Bool) (h : Fin 7) (s : Fin 4) : sProp 𝕄 :=
  iprop(dutyTok ER (sendCell c (d, h, s)) 0 false ∗ dutyTok ER (recvCell (toDev d c) (d, h, s)) 0 false ∗ atPos ER (sendCell c (d, h, s)) 0 ∅ 0
    ∗ freePts (toDev d c) d h s)
/-- A transfer in flight. -/
def flying (c : Dev nD) (d : Bool) (h : Fin 7) (s : Fin 4) : sProp 𝕄 :=
  iprop(atPos ER (sendCell c (d, h, s)) 0 ∅ 0 ∗ cred (tallyAt (sendCell c (d, h, s)) () N))
/-- A piece awaited. -/
def waiting (c : Dev nD) (d : Bool) (h : Fin 7) (s : Fin 4) : sProp 𝕄 :=
  iprop(atPos ER (recvCell c (d, h, s)) 0 ∅ 0 ∗ cred (tallyAt (recvCell c (d, h, s)) () N))
/-- A piece arrived, its left share kept. -/
def arrived (c : Dev nD) (d : Bool) (h : Fin 7) (s : Fin 4) : sProp 𝕄 :=
  iprop(semVal (recvCell c (d, h, s)) 0 ∗ piecePts X c d h s fullShare.left)
/-- A transfer done, the lent share of its source back. -/
def returned (c : Dev nD) (d : Bool) (h : Fin 7) (s : Fin 4) : sProp 𝕄 :=
  iprop(semVal (sendCell c (d, h, s)) 0 ∗ srcPts X c d h s)

theorem piecePts_halves (c : Dev nD) (d : Bool) (h : Fin 7) (s : Fin 4) :
    piecePts X c d h s fullShare ⊣⊢ iprop(piecePts X c d h s fullShare.left ∗ piecePts X c d h s fullShare.right) :=
  pointsTo_share (PosShare.mem_left_op_right fullShare)

/-! ## The steps -/

theorem xfer_duty (c : Dev nD) (k : Bool × Xfer) : false ∈ (rd (F := F) X).duties (cell c (some k)) 0 := by
  rw [duties_cell]; exact Finset.mem_singleton_self _

/-- What an arrival's wait hands over, and what a send's does. -/
theorem rest_recv (c : Dev nD) (d : Bool) (h : Fin 7) (s : Fin 4) :
    bigSep ((rd (F := F) X).duties ((c : Thread nD τ), .dma (rSem d h s)) 0 \ ∅) (fun b => (rd (F := F) X).payload ((c : Thread nD τ), .dma (rSem d h s)) 0 b)
      ⊢ iprop(piecePts X c d h s fullShare.left ∗ piecePts X c d h s fullShare.right) :=
  (Entails.of_eq (rest_xfer X c (true, d, h, s))).trans (piecePts_halves X c d h s).1
theorem rest_send (c : Dev nD) (d : Bool) (h : Fin 7) (s : Fin 4) :
    bigSep ((rd (F := F) X).duties ((c : Thread nD τ), .dma (sSem d h s)) 0 \ ∅) (fun b => (rd (F := F) X).payload ((c : Thread nD τ), .dma (sSem d h s)) 0 b)
      ⊢ srcPts X c d h s :=
  Entails.of_eq (rest_xfer X c (false, d, h, s))

/-- A send. -/
theorem wp_sendOp (c : Dev nD) (d : Bool) (h : Fin 7) (s : Fin 4) (l : List Xfer) (Q : PUnit → sProp 𝕄) :
    iprop(ctx X K ∗ owesE c (owedL c ((d, h, s) :: l)) ∗ unsent c d h s ∗ srcPts X c d h s)
      ⊢ iprop(((owesE c (owedL c l) ∗ flying c d h s) -∗ Q ⟨⟩) -∗ wpc c (sendOp c d h s) Q) := by
  unfold unsent flying owesE freePts srcPts sendOp
  iintro ⟨#Hc, ⟨%W, HO⟩, ⟨HtS, HtR, Hat, ⟨%fd, Hd⟩⟩, Hs⟩ HQ
  ihave #HiS := (ctx_inv X K c (some (false, d, h, s))) $$ Hc
  ihave #HiR := (ctx_inv X K (toDev d c) (some (true, d, h, s))) $$ Hc
  ihave #HrS := (ctx_reached X K c (some (false, d, h, s))) $$ Hc
  ihave #HrR := (ctx_reached X K (toDev d c) (some (true, d, h, s))) $$ Hc
  iapply (Rounds.wp_send_pointsTo 𝒱₀ ER (rd X) (c : Thread nD τ) none (c' := (toDev d c : Thread nD τ))
    (src := src d h s) (dst := piece d h s) (sS := .dma (sSem d h s)) (sem := .dma (rSem d h s)) (q := fullShare.right)
    (κ₁ := K (c, some (false, d, h, s))) (κ₂ := K (toDev d c, some (true, d, h, s)))
    (r₁ := 0) (r₂ := 0) (d₁ := false) (d₂ := false) (fd := fd) (fs := srcBuf X d h s c)
    (xfer_duty X c (false, d, h, s)) (xfer_duty X (toDev d c) (true, d, h, s)) () () N (credit_piece d h s)
    (amount_cell X c (some (false, d, h, s)) false) (amount_cell X (toDev d c) (some (true, d, h, s)) false)
    (owedL c l) rfl (W := W) (Entails.of_eq (payload_cell X c (some (false, d, h, s)) false).symm)
    ((Entails.of_eq (pointsTo_congr (copy_landed X d h s c fd))).trans
      (Entails.of_eq (payload_cell X (toDev d c) (some (true, d, h, s)) false).symm))) $$ [HO HtS HtR Hd Hs]
  · isplitr; · iexact HiS
    isplitr; · iexact HiR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hcr, HO⟩
  rw [wp_ret]
  imodintro
  iapply HQ
  isplitl [HO]; · iexists W; iexact HO
  isplitl [Hat]; · iexact Hat
  iexact Hcr

/-- The wait for an arrival: the piece is there, whole, and the cell is closed. -/
theorem wp_recvOp (c : Dev nD) (d : Bool) (h : Fin 7) (s : Fin 4) (l : List Xfer) (hl : ∀ e ∈ l, h < e.2.1) (Q : PUnit → sProp 𝕄) :
    iprop(ctx X K ∗ owesE c (owedL c l) ∗ waiting c d h s)
      ⊢ iprop(((owesE c (owedL c l) ∗ arrived X c d h s ∗ piecePts X c d h s fullShare.right) -∗ Q ⟨⟩) -∗ wpc c (recvOp d h s) Q) := by
  unfold waiting arrived owesE recvOp
  iintro ⟨#Hc, ⟨%W, HO⟩, ⟨Hat, Hcr⟩⟩ HQ
  ihave #HiR := (ctx_inv X K c (some (true, d, h, s))) $$ Hc
  ihave #Hlev := (ctx_lev X K) $$ Hc
  iapply (Rounds.wp_wait_rest_token 𝒱₀ ER (rd X) (c : Thread nD τ) none (κ := K (c, some (true, d, h, s)))
      (wpE_waitDma2_eq 𝒱₀ (c : Thread nD τ) none Set.univ) (Set.mem_univ _) () (O := owedL c l) (W := W) (R := 0) (m := 0) (T := ∅)
      (by rw [Nat.zero_add, credit_piece]; exact (expect_xfer X c (true, d, h, s)).symm)) $$ [Hcr HO Hat]
  · isplitr; · iexact HiR
    isplitl [Hcr]; · rw [credit_piece]; iexact Hcr
    isplitl [HO]; · iexact HO
    isplitr
    · iapply (mayWait_owedL c (some (true, d, h, s)) l (fun e he => Nat.add_lt_add_left (hl e he) 2)); iexact Hlev
    iexact Hat
  iintro ⟨HO, Hat, -, Hpay⟩
  ihave Hp := (rest_recv X c d h s) $$ Hpay
  imod (Rounds.cell_close ER (rd X) (Set.mem_univ (K (c, some (true, d, h, s)))) (fun h => h) (R := 0 + 1) (duties_later X (recvCell c (d, h, s)))) $$ [Hat] with Hz
  · isplitr; · iexact HiR
    iexact Hat
  icases Hp with ⟨Hl, Hr⟩
  rw [wp_ret]
  imodintro
  iapply HQ
  isplitl [HO]; · iexists _; iexact HO
  isplitl [Hz Hl]
  · isplitl [Hz] <;> iassumption
  iexact Hr

/-- A relay: the piece arrives and is sent on, its right share lent. -/
theorem wp_relayOp (c : Dev nD) (d : Bool) (h : Fin 6) (s : Fin 4) (l : List Xfer) (hl : ∀ e ∈ l, h.castSucc < e.2.1) (Q : PUnit → sProp 𝕄) :
    iprop(ctx X K ∗ owesE c (owedL c ((d, h.succ, s) :: l)) ∗ waiting c d h.castSucc s ∗ unsent c d h.succ s)
      ⊢ iprop(((owesE c (owedL c l) ∗ arrived X c d h.castSucc s ∗ flying c d h.succ s) -∗ Q ⟨⟩) -∗ wpc c (relayOp c d h s) Q) := by
  unfold relayOp
  iintro ⟨#Hc, HO, Hw, Hu⟩ HQ
  rw [wpc, wp_bind]
  iapply (wp_recvOp X K c d h.castSucc s ((d, h.succ, s) :: l) (fun e he => by
    rcases List.mem_cons.mp he with rfl | he
    · exact Fin.castSucc_lt_succ
    · exact hl e he) _) $$ [HO Hw]
  · isplitr; · iexact Hc
    isplitl [HO] <;> iassumption
  iintro ⟨HO, Ha, Hr⟩
  iapply (wp_sendOp X K c d h.succ s l Q) $$ [HO Hu Hr]
  · isplitr; · iexact Hc
    isplitl [HO]; · iexact HO
    isplitl [Hu]; · iexact Hu
    rw [srcPts_succ]; iexact Hr
  iintro ⟨HO, Hf⟩
  iapply HQ
  isplitl [HO]; · iexact HO
  isplitl [Ha] <;> iassumption

/-- The wait for a send, once nothing is owed any more. -/
theorem wp_doneOp (c : Dev nD) (d : Bool) (h : Fin 7) (s : Fin 4) (Q : PUnit → sProp 𝕄) :
    iprop(ctx X K ∗ owesE c 0 ∗ flying c d h s)
      ⊢ iprop(((owesE c 0 ∗ returned X c d h s) -∗ Q ⟨⟩) -∗ wpc c (doneOp d h s) Q) := by
  unfold flying returned owesE doneOp
  iintro ⟨#Hc, ⟨%W, HO⟩, ⟨Hat, Hcr⟩⟩ HQ
  ihave #HiS := (ctx_inv X K c (some (false, d, h, s))) $$ Hc
  iapply (Rounds.wp_wait_rest_token 𝒱₀ ER (rd X) (c : Thread nD τ) none (κ := K (c, some (false, d, h, s)))
      (wpE_waitDma2_eq 𝒱₀ (c : Thread nD τ) none Set.univ) (Set.mem_univ _) () (O := 0) (W := W) (R := 0) (m := 0) (T := ∅)
      (by rw [Nat.zero_add, credit_src]; exact (expect_xfer X c (false, d, h, s)).symm)) $$ [Hcr HO Hat]
  · isplitr; · iexact HiS
    isplitl [Hcr]; · rw [credit_src]; iexact Hcr
    isplitl [HO]; · iexact HO
    isplitr; · rw [MayWait_zero]; iempintro
    iexact Hat
  iintro ⟨HO, Hat, -, Hpay⟩
  ihave Hp := (rest_send X c d h s) $$ Hpay
  imod (Rounds.cell_close ER (rd X) (Set.mem_univ (K (c, some (false, d, h, s)))) (fun h => h) (R := 0 + 1) (duties_later X (sendCell c (d, h, s)))) $$ [Hat] with Hz
  · isplitr; · iexact HiS
    iexact Hat
  rw [wp_ret]
  imodintro
  iapply HQ
  isplitl [HO]; · iexists _; iexact HO
  isplitl [Hz]; · iexact Hz
  iexact Hp

end Cert.KernelIdeal.Ring

end
-- ==== Proof.KernelIdeal.Products.lean ====
/- The result block by block.

   The result of device `c` is, block of rows by block of rows, the product of the rows of the block's device with
   `c`'s columns, scaled and cut at zero: the block of `c` itself from its own `x`, every other block in two halves,
   each from the pieces of one direction. A step that multiplies writes that value on its block and keeps it on the
   blocks written before. -/
module

public import proofs.«01_k».proof.Proof.KernelIdeal.Steps

@[expose] public section

noncomputable section

namespace Cert.KernelIdeal.Ring

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .i8) (w : Vec F S4096x256 .i8) (k : F .f32)

/-- The device whose rows the result's row belongs to. -/
def rowDev (i : S4096x256.Idx) : Dev nD := ⟨(i 0).val / 512, Nat.div_lt_of_lt_mul (i 0).isLt⟩

/-- The half of that device's rows the row is in. -/
def rowHalf (i : S4096x256.Idx) : Bool := decide ((i 0).val % 512 < 256)

/-- The result on device `c`. -/
def outAt (c : Dev nD) : Vec F S4096x256 .f32 := fun i =>
  if rowDev i = c then k0_pay2 k (X c) w (ix2 (⟨(i 0).val % 512, Nat.mod_lt _ (by decide)⟩ : Fin 512) (i 1 : Fin 256))
  else k0_pay3 k (halfRows (rowHalf i) (X (rowDev i))) w (ix2 (⟨(i 0).val % 256, Nat.mod_lt _ (by decide)⟩ : Fin 256) (i 1 : Fin 256))

/-- The first row a hop's product fills. -/
theorem halfOff_row : ∀ (d : Bool) (h : Fin 7) (c : Dev nD), halfOff d h c 0 = 512 * (org d h c).val + (if d then 0 else 256) := by decide +kernel
theorem halfOff_col : ∀ (d : Bool) (h : Fin 7) (c : Dev nD), halfOff d h c 1 = 0 := by decide +kernel
theorem ownOff_row (c : Dev nD) : k0_off1 c 0 = 512 * c.val := congrFun (k0_off1_eq c) 0
theorem ownOff_col (c : Dev nD) : k0_off1 c 1 = 0 := congrFun (k0_off1_eq c) 1

theorem halfRect_row (d : Bool) (h : Fin 7) (c : Dev nD) (x : S256x256.Idx) :
    ((halfRect d h c).emb x 0 : Fin 4096).val = 512 * (org d h c).val + (if d then 0 else 256) + (x 0 : Fin 256).val := by
  show halfOff d h c 0 + 1 * (x 0 : Fin 256).val = _
  rw [halfOff_row, Nat.one_mul]
theorem halfRect_col (d : Bool) (h : Fin 7) (c : Dev nD) (x : S256x256.Idx) :
    ((halfRect d h c).emb x 1 : Fin 256).val = (x 1 : Fin 256).val := by
  show halfOff d h c 1 + 1 * (x 1 : Fin 256).val = _
  rw [halfOff_col, Nat.one_mul, Nat.zero_add]
theorem ownRect_row (c : Dev nD) (x : S512x256.Idx) : ((ownRect c).emb x 0 : Fin 4096).val = 512 * c.val + (x 0 : Fin 512).val := by
  show k0_off1 c 0 + 1 * (x 0 : Fin 512).val = _
  rw [ownOff_row, Nat.one_mul]
theorem ownRect_col (c : Dev nD) (x : S512x256.Idx) : ((ownRect c).emb x 1 : Fin 256).val = (x 1 : Fin 256).val := by
  show k0_off1 c 1 + 1 * (x 1 : Fin 256).val = _
  rw [ownOff_col, Nat.one_mul, Nat.zero_add]

/-- On a hop's block the result is that hop's product. -/
theorem outAt_half (d : Bool) (h : Fin 7) (c : Dev nD) (x : S256x256.Idx) :
    outAt X w k c ((halfRect d h c).emb x) = k0_pay3 k (halfRows d (X (org d h c))) w x := by
  have hr := halfRect_row d h c x
  have hx : (x 0 : Fin 256).val < 256 := (x 0).isLt
  have hd : rowDev ((halfRect d h c).emb x) = org d h c := Fin.ext (by
    show ((halfRect d h c).emb x 0 : Fin 4096).val / 512 = _
    rw [hr]; cases d <;> simp only [if_true, if_false, Bool.false_eq_true] <;> omega)
  have hh : rowHalf ((halfRect d h c).emb x) = d := by
    unfold rowHalf
    cases d
    · exact decide_eq_false (by
        show ¬ ((halfRect false h c).emb x 0 : Fin 4096).val % 512 < 256
        rw [hr]; simp only [if_false, Bool.false_eq_true]; omega)
    · exact decide_eq_true (by
        show ((halfRect true h c).emb x 0 : Fin 4096).val % 512 < 256
        rw [hr]; simp only [if_true]; omega)
  unfold outAt
  rw [if_neg (by rw [hd]; exact org_ne d h c), hd, hh]
  refine congrArg _ (funext fun a => ?_)
  fin_cases a
  · refine Fin.ext ?_
    show ((halfRect d h c).emb x 0 : Fin 4096).val % 256 = (x 0 : Fin 256).val
    rw [hr]; cases d <;> simp only [if_true, if_false, Bool.false_eq_true] <;> omega
  · exact Fin.ext (halfRect_col d h c x)

/-- On a device's own block the result is its own product. -/
theorem outAt_own (c : Dev nD) (x : S512x256.Idx) : outAt X w k c ((ownRect c).emb x) = k0_pay2 k (X c) w x := by
  have hr := ownRect_row c x
  have hx : (x 0 : Fin 512).val < 512 := (x 0).isLt
  unfold outAt
  rw [if_pos (Fin.ext (by
    show ((ownRect c).emb x 0 : Fin 4096).val / 512 = c.val
    rw [hr]; omega))]
  refine congrArg _ (funext fun a => ?_)
  fin_cases a
  · refine Fin.ext ?_
    show ((ownRect c).emb x 0 : Fin 4096).val % 512 = (x 0 : Fin 512).val
    rw [hr]; omega
  · exact Fin.ext (ownRect_col c x)

/-- Every other device's rows arrive in either direction at some hop. -/
theorem org_surj : ∀ (d : Bool) (c o : Dev nD), o ≠ c → ∃ h, org d h c = o := by decide +kernel

/-- Every element of the result is in the device's own block or in a hop's. -/
theorem covered (c : Dev nD) (i : S4096x256.Idx) : i ∈ (ownRect c).set ∨ ∃ d h, i ∈ (halfRect d h c).set := by
  have hi0 : (i 0).val < 4096 := (i 0).isLt
  have hi1 : (i 1).val < 256 := (i 1).isLt
  by_cases hc : rowDev i = c
  · left
    have hv : (i 0).val / 512 = c.val := congrArg Fin.val hc
    rw [Rect.mem_set_unit]
    intro a
    fin_cases a
    · show k0_off1 c 0 ≤ (i 0).val ∧ (i 0).val < k0_off1 c 0 + 512
      rw [ownOff_row]; omega
    · show k0_off1 c 1 ≤ (i 1).val ∧ (i 1).val < k0_off1 c 1 + 256
      rw [ownOff_col]; omega
  · right
    obtain ⟨h, hh⟩ := org_surj (rowHalf i) c (rowDev i) hc
    refine ⟨rowHalf i, h, Rect.mem_set_unit.mpr fun a => ?_⟩
    have hv : (org (rowHalf i) h c).val = (i 0).val / 512 := congrArg Fin.val hh
    fin_cases a
    · show halfOff (rowHalf i) h c 0 ≤ (i 0).val ∧ (i 0).val < halfOff (rowHalf i) h c 0 + 256
      rw [halfOff_row, hv]
      by_cases hb : (i 0).val % 512 < 256
      · rw [show rowHalf i = true from decide_eq_true hb]; simp only [if_true]; omega
      · rw [show rowHalf i = false from decide_eq_false hb]; simp only [if_false, Bool.false_eq_true]; omega
    · show halfOff (rowHalf i) h c 1 ≤ (i 1).val ∧ (i 1).val < halfOff (rowHalf i) h c 1 + 256
      rw [halfOff_col]; omega

/-- Writing a block of the result: where the written values are the result's, it holds on the block and wherever it
    held before. -/
theorem write_block (r : Rect S4096x256) (f g : Vec F S4096x256 .f32) (v : r.shape.Idx → Elt F .f32)
    (hv : ∀ x, f (r.emb x) = v x) (i : S4096x256.Idx) (hi : i ∈ r.set ∨ g i = f i) :
    (oM.access r : View sig .tc _ _ _).write (Elt F) g v Finset.univ i = f i := by
  by_cases hm : i ∈ (oM.access r : View sig .tc _ _ _).setOn Finset.univ
  · obtain ⟨x, -, rfl⟩ := Finset.mem_map.mp hm
    exact (View.write_emb_of_mem (v := (oM.access r : View sig .tc _ _ _)) g v (Finset.mem_univ x)).trans (hv x).symm
  · rw [View.write_of_not_mem (v := (oM.access r : View sig .tc _ _ _)) (Val := Elt F) g v _ hm]
    refine hi.resolve_left fun h => hm ?_
    have : i ∈ ((View.whole cc0_stg4_0 : View sig .tc _ _ _).slice r).set := by rw [View.set_slice_whole]; exact h
    exact this

/-! ## The steps -/

def xPts (c : Dev nD) (q : PosShare TreeShare) : sProp 𝕄 := ((c : Thread nD τ).loc cc0_stg0_0) ↦{q} X c
def wPts (c : Dev nD) : sProp 𝕄 := ((c : Thread nD τ).loc cc0_stg1_0) ↦{fullShare} w
/-- The result's staging buffer, right on the elements `S`. -/
def outE (c : Dev nD) (S : S4096x256.Idx → Prop) : sProp 𝕄 :=
  iprop(∃ g : Vec F S4096x256 .f32, ⌜∀ i, S i → g i = outAt X w k c i⌝ ∗ (((c : Thread nD τ).loc cc0_stg4_0) ↦{fullShare} g))
/-- The four pieces of a hop, at share `q`. -/
def hopPts (c : Dev nD) (d : Bool) (h : Fin 7) (q : PosShare TreeShare) : sProp 𝕄 := sepL (fun s => piecePts X c d h s q) four

theorem outE_mono (c : Dev nD) {S T : S4096x256.Idx → Prop} (h : ∀ i, T i → S i) : outE X w k c S ⊢ outE X w k c T := by
  unfold outE
  iintro ⟨%g, %hg, H⟩
  iexists g
  isplitr; · ipureintro; exact fun i hi => hg i (h i hi)
  iexact H

theorem hopPts_eq (c : Dev nD) (d : Bool) (h : Fin 7) (q : PosShare TreeShare) :
    hopPts X c d h q = ((comm d).view.loc (c : Thread nD τ) ↦[Finset.univ.biUnion fun s : Fin 4 => pset d h s]{q} landed X d c : sProp 𝕄) := by
  unfold hopPts piecePts
  rw [sepL_four, pointsTo_biUnion]
  exact fun s _ s' _ hne => pset_disjoint d fun e => hne e.2

theorem zeros2 : (![0, 0] : Fin 2 → Nat) = fun _ => 0 := funext fun a => by fin_cases a <;> rfl

/-- The product of a hop's rows. -/
theorem wp_halfOp (c : Dev nD) (d : Bool) (h : Fin 7) (S : S4096x256.Idx → Prop) (Q : PUnit → sProp 𝕄) :
    iprop(hopPts X c d h fullShare.left ∗ wPts w c ∗ outE X w k c S)
      ⊢ iprop(((hopPts X c d h fullShare.left ∗ wPts w c ∗ outE X w k c (fun i => i ∈ (halfRect d h c).set ∨ S i)) -∗ Q ⟨⟩)
          -∗ wpc c (halfOp c k d h) Q) := by
  unfold halfOp outE wPts
  rw [hopPts_eq]
  simp only [Prog.lift, Prog.bind_op, Prog.bind_ret]
  iintro ⟨Hp, Hw, ⟨%g, %hg, Ho⟩⟩ HQ
  iapply (wp_load 𝒱₀ (c : Thread nD τ) none Set.univ (m := comm d) (hop_subset d h)) $$ Hp; iintro Hp
  rw [read_hop]
  iapply (wp_load 𝒱₀ (c : Thread nD τ) none Set.univ (m := wM) (Finset.subset_univ _)) $$ Hw; iintro Hw
  rw [show wM.view.readAt (Elt F) wRect.toLoadRect w = w from Memref.readAt_unit_zero (Elt F) cc0_stg1_0 zeros2 _ w]
  iapply (wp_load 𝒱₀ (c : Thread nD τ) none Set.univ (m := oM) (Finset.subset_univ _)) $$ Ho; iintro Ho
  iapply (wp_store 𝒱₀ (c : Thread nD τ) none Set.univ (m := oM) (r := halfRect d h c) (Mk := Finset.univ) (Finset.subset_univ _)) $$ Ho; iintro Ho
  rw [wp_ret]
  imodintro
  iapply HQ
  isplitl [Hp]; · iexact Hp
  isplitl [Hw]; · iexact Hw
  iexists _
  isplitr
  · ipureintro
    exact fun i hi => write_block (halfRect d h c) (outAt X w k c) g _ (outAt_half X w k d h c) i (hi.imp id (hg i))
  iexact Ho

/-- The product of the device's own rows. -/
theorem wp_ownOp (c : Dev nD) (q : PosShare TreeShare) (S : S4096x256.Idx → Prop) (Q : PUnit → sProp 𝕄) :
    iprop(xPts X c q ∗ wPts w c ∗ outE X w k c S)
      ⊢ iprop(((xPts X c q ∗ wPts w c ∗ outE X w k c (fun i => i ∈ (ownRect c).set ∨ S i)) -∗ Q ⟨⟩)
          -∗ wpc c (ownOp c k) Q) := by
  unfold ownOp outE wPts xPts
  simp only [Prog.lift, Prog.bind_op, Prog.bind_ret]
  iintro ⟨Hx, Hw, ⟨%g, %hg, Ho⟩⟩ HQ
  iapply (wp_load 𝒱₀ (c : Thread nD τ) none Set.univ (m := xM) (Finset.subset_univ _)) $$ Hx; iintro Hx
  rw [show xM.view.readAt (Elt F) xRect.toLoadRect (X c) = X c from Memref.readAt_unit_zero (Elt F) cc0_stg0_0 zeros2 _ (X c)]
  iapply (wp_load 𝒱₀ (c : Thread nD τ) none Set.univ (m := wM) (Finset.subset_univ _)) $$ Hw; iintro Hw
  rw [show wM.view.readAt (Elt F) wRect.toLoadRect w = w from Memref.readAt_unit_zero (Elt F) cc0_stg1_0 zeros2 _ w]
  iapply (wp_load 𝒱₀ (c : Thread nD τ) none Set.univ (m := oM) (Finset.subset_univ _)) $$ Ho; iintro Ho
  iapply (wp_store 𝒱₀ (c : Thread nD τ) none Set.univ (m := oM) (r := ownRect c) (Mk := Finset.univ) (Finset.subset_univ _)) $$ Ho; iintro Ho
  rw [wp_ret]
  imodintro
  iapply HQ
  isplitl [Hx]; · iexact Hx
  isplitl [Hw]; · iexact Hw
  iexists _
  isplitr
  · ipureintro
    exact fun i hi => write_block (ownRect c) (outAt X w k c) g _ (outAt_own X w k c) i (hi.imp id (hg i))
  iexact Ho

end Cert.KernelIdeal.Ring

end
-- ==== Proof.KernelIdeal.Loops.lean ====
/- The body's loops, one theorem each.

   A hop's four pieces in a direction are one resource: awaited, unsent, arrived, in flight or returned. A loop turns
   those of its hops into the next stage, and the hop loop also fills the hops' blocks of the result. -/
module

public import proofs.«01_k».proof.Proof.KernelIdeal.Products

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .i8) (K : Dev nD × Key → ℕ)

/-- A loop from its first member to its last. -/
theorem wp_loop {c : Dev nD} {ι : Type} (f : ι → Prog (TpuEff nD τ sig (Elt F) Λ₀ .tc) PUnit) (I : List ι → List ι → sProp 𝕄) (Φ Ψ : ι → sProp 𝕄)
    (l : List ι) {A B : sProp 𝕄} (hA : A ⊢ I [] l) (hB : I (l.reverse ++ []) [] ⊢ B)
    (step : ∀ done a rest, (a :: rest) <:+ l → ∀ Q : PUnit → sProp 𝕄,
      iprop(I done (a :: rest) ∗ Φ a) ⊢ iprop(((I (a :: done) rest ∗ Ψ a) -∗ Q ⟨⟩) -∗ wpc c (f a) Q))
    (Q : PUnit → sProp 𝕄) :
    iprop(A ∗ sepL Φ l) ⊢ iprop(((B ∗ sepL Ψ l) -∗ Q ⟨⟩) -∗ wpc c (forL f l) Q) := by
  iintro ⟨HA, Hl⟩ HQ
  ihave HI := hA $$ HA
  iapply (wp_forL f I Φ Ψ l step l [] (List.suffix_refl l) Q) $$ [HI Hl]
  · isplitl [HI] <;> iassumption
  iintro ⟨HI, Hl⟩
  ihave HB := hB $$ HI
  iapply HQ
  isplitl [HB] <;> iassumption

/-! ## A hop's pieces -/

def waitHop (c : Dev nD) (d : Bool) (h : Fin 7) : sProp 𝕄 := sepL (waiting c d h) four
def unsentHop (c : Dev nD) (d : Bool) (h : Fin 7) : sProp 𝕄 := sepL (unsent c d h) four
def arrHop (c : Dev nD) (d : Bool) (h : Fin 7) : sProp 𝕄 := sepL (arrived X c d h) four
def flyHop (c : Dev nD) (d : Bool) (h : Fin 7) : sProp 𝕄 := sepL (flying c d h) four
def retHop (c : Dev nD) (d : Bool) (h : Fin 7) : sProp 𝕄 := sepL (returned X c d h) four
def srcHop (c : Dev nD) (d : Bool) (h : Fin 7) : sProp 𝕄 := sepL (srcPts X c d h) four

/-- The arrived pieces, apart from their cells. -/
theorem arrHop_eq (c : Dev nD) (d : Bool) (h : Fin 7) :
    arrHop X c d h = iprop(sepL (fun s => semVal (recvCell c (d, h, s)) 0) four ∗ hopPts X c d h fullShare.left) := by
  unfold arrHop hopPts arrived
  exact sepL_sep _ _ four
theorem retHop_eq (c : Dev nD) (d : Bool) (h : Fin 7) :
    retHop X c d h = iprop(sepL (fun s => semVal (sendCell c (d, h, s)) 0) four ∗ srcHop X c d h) := by
  unfold retHop srcHop returned
  exact sepL_sep _ _ four

/-- What a device may use again and what it owes. -/
def st (c : Dev nD) (l : List Xfer) : sProp 𝕄 := iprop(ctx X K ∗ owesE c (owedL c l))

/-! ## The orders of the sends -/

theorem mem_sendsAt {h : Fin 7} {ss : List (Fin 4)} {e : Xfer} (he : e ∈ sendsAt h ss) : e.2.1 = h := by
  obtain ⟨s, -, hs⟩ := List.mem_flatMap.mp he
  rcases List.mem_cons.mp hs with rfl | hs
  · rfl
  · rw [List.mem_singleton.mp hs]
theorem mem_hopSends {hs : List (Fin 6)} {e : Xfer} (he : e ∈ hopSends hs) : ∃ b ∈ hs, e.2.1 = b.succ := by
  obtain ⟨b, hb, h⟩ := List.mem_flatMap.mp he
  exact ⟨b, hb, mem_sendsAt h⟩

/-- All the sends after a hop's are at later hops. -/
theorem later {a : Fin 6} {rest : List (Fin 6)} (h : (a :: rest) <:+ six) {ss : List (Fin 4)} {e : Xfer}
    (he : e ∈ sendsAt a.succ ss ++ hopSends rest) : a.castSucc < e.2.1 := by
  have hp : List.Pairwise (· < ·) (a :: rest) := List.Pairwise.sublist h.sublist (by decide : List.Pairwise (· < ·) six)
  rcases List.mem_append.mp he with he | he
  · rw [mem_sendsAt he]; exact Fin.castSucc_lt_succ
  · obtain ⟨b, hb, e⟩ := mem_hopSends he
    rw [e]
    have : a < b := (List.pairwise_cons.mp hp).1 b hb
    exact Nat.lt_succ_of_lt this

/-! ## The loops -/

/-- A direction's first sends. -/
theorem wp_firstSends (c : Dev nD) (d : Bool) (R : List Xfer) (Q : PUnit → sProp 𝕄) :
    iprop(st X K c (four.map (fun s => (d, (0 : Fin 7), s)) ++ R) ∗ unsentHop c d 0 ∗ srcHop X c d 0)
      ⊢ iprop(((st X K c R ∗ flyHop c d 0) -∗ Q ⟨⟩) -∗ wpc c (forL (sendOp c d 0) four) Q) := by
  unfold unsentHop srcHop flyHop
  rw [← sepL_sep]
  refine wp_loop (sendOp c d 0) (fun _ ss => st X K c (ss.map (fun s => (d, (0 : Fin 7), s)) ++ R)) _ _ four (Entails.refl _) (Entails.refl _)
    (fun _ s ss _ Q => ?_) Q
  show iprop(st X K c ((d, 0, s) :: (ss.map (fun s => (d, (0 : Fin 7), s)) ++ R)) ∗ unsent c d 0 s ∗ srcPts X c d 0 s)
    ⊢ iprop(((st X K c (ss.map (fun s => (d, (0 : Fin 7), s)) ++ R) ∗ flying c d 0 s) -∗ Q ⟨⟩) -∗ wpc c (sendOp c d 0 s) Q)
  unfold st
  iintro ⟨⟨#Hc, HO⟩, Hu, Hs⟩ HQ
  iapply (wp_sendOp X K c d 0 s _ Q) $$ [HO Hu Hs]
  · isplitr; · iexact Hc
    isplitl [HO]; · iexact HO
    isplitl [Hu] <;> iassumption
  iintro ⟨HO, Hf⟩
  iapply HQ
  isplitr [Hf]
  · isplitr; · iexact Hc
    iexact HO
  iexact Hf

/-- A hop's relays, both directions. -/
theorem wp_relays (c : Dev nD) (a : Fin 6) (rest : List (Fin 6)) (ha : (a :: rest) <:+ six) (Q : PUnit → sProp 𝕄) :
    iprop(st X K c (hopSends (a :: rest)) ∗ (waitHop c true a.castSucc ∗ unsentHop c true a.succ) ∗ (waitHop c false a.castSucc ∗ unsentHop c false a.succ))
      ⊢ iprop(((st X K c (hopSends rest) ∗ (arrHop X c true a.castSucc ∗ flyHop c true a.succ) ∗ (arrHop X c false a.castSucc ∗ flyHop c false a.succ)) -∗ Q ⟨⟩)
          -∗ wpc c (forL (fun s => relayOp c true a s >>= fun _ => relayOp c false a s) four) Q) := by
  unfold waitHop unsentHop arrHop flyHop
  rw [← sepL_sep, ← sepL_sep, ← sepL_sep, ← sepL_sep, ← sepL_sep, ← sepL_sep]
  refine wp_loop (fun s => relayOp c true a s >>= fun _ => relayOp c false a s) (fun _ ss => st X K c (sendsAt a.succ ss ++ hopSends rest)) _ _ four
    (Entails.refl _) (Entails.refl _) (fun _ s ss _ Q => ?_) Q
  show iprop(st X K c ((true, a.succ, s) :: (false, a.succ, s) :: (sendsAt a.succ ss ++ hopSends rest))
      ∗ (waiting c true a.castSucc s ∗ unsent c true a.succ s) ∗ (waiting c false a.castSucc s ∗ unsent c false a.succ s))
    ⊢ iprop(((st X K c (sendsAt a.succ ss ++ hopSends rest)
        ∗ (arrived X c true a.castSucc s ∗ flying c true a.succ s) ∗ (arrived X c false a.castSucc s ∗ flying c false a.succ s)) -∗ Q ⟨⟩)
        -∗ wpc c (relayOp c true a s >>= fun _ => relayOp c false a s) Q)
  unfold st
  iintro ⟨⟨#Hc, HO⟩, ⟨HwT, HuT⟩, ⟨HwF, HuF⟩⟩ HQ
  rw [wpc, wp_bind]
  iapply (wp_relayOp X K c true a s ((false, a.succ, s) :: (sendsAt a.succ ss ++ hopSends rest))
    (fun e he => later (ss := s :: ss) ha (List.mem_cons_of_mem _ he)) _) $$ [HO HwT HuT]
  · isplitr; · iexact Hc
    isplitl [HO]; · iexact HO
    isplitl [HwT] <;> iassumption
  iintro ⟨HO, HaT, HfT⟩
  iapply (wp_relayOp X K c false a s (sendsAt a.succ ss ++ hopSends rest) (fun e he => later (ss := ss) ha he) _) $$ [HO HwF HuF]
  · isplitr; · iexact Hc
    isplitl [HO]; · iexact HO
    isplitl [HwF] <;> iassumption
  iintro ⟨HO, HaF, HfF⟩
  iapply HQ
  isplitl [HO]
  · isplitr; · iexact Hc
    iexact HO
  isplitl [HaT HfT]
  · isplitl [HaT] <;> iassumption
  isplitl [HaF] <;> iassumption

variable (w : Vec F S4096x256 .i8) (k : F .f32)

/-- The elements of the result that the own product and the products of the listed hops fill. -/
def filled (c : Dev nD) (hs : List (Fin 7)) (i : S4096x256.Idx) : Prop :=
  i ∈ (ownRect c).set ∨ ∃ h ∈ hs, ∃ d, i ∈ (halfRect d h c).set

/-- Both products of an arrived hop. -/
theorem wp_products (c : Dev nD) (h : Fin 7) (hs : List (Fin 7)) (Q : PUnit → sProp 𝕄) :
    iprop(arrHop X c true h ∗ arrHop X c false h ∗ wPts w c ∗ outE X w k c (filled c hs))
      ⊢ iprop(((arrHop X c true h ∗ arrHop X c false h ∗ wPts w c ∗ outE X w k c (filled c (h :: hs))) -∗ Q ⟨⟩)
          -∗ wpc c (halfOp c k true h) (fun _ => wpc c (halfOp c k false h) Q)) := by
  rw [arrHop_eq, arrHop_eq]
  iintro ⟨⟨HsT, HT⟩, ⟨HsF, HF⟩, Hw, Ho⟩ HQ
  iapply (wp_halfOp X w k c true h (filled c hs) _) $$ [HT Hw Ho]
  · isplitl [HT]; · iexact HT
    isplitl [Hw] <;> iassumption
  iintro ⟨HT, Hw, Ho⟩
  iapply (wp_halfOp X w k c false h _ Q) $$ [HF Hw Ho]
  · isplitl [HF]; · iexact HF
    isplitl [Hw] <;> iassumption
  iintro ⟨HF, Hw, Ho⟩
  ihave Ho := (outE_mono X w k c (T := filled c (h :: hs)) (fun i hi => by
    rcases hi with hi | ⟨h', hh, d, hi⟩
    · exact Or.inr (Or.inr (Or.inl hi))
    · rcases List.mem_cons.mp hh with rfl | hh
      · cases d
        · exact Or.inl hi
        · exact Or.inr (Or.inl hi)
      · exact Or.inr (Or.inr (Or.inr ⟨h', hh, d, hi⟩)))) $$ Ho
  iapply HQ
  isplitl [HsT HT]
  · isplitl [HsT] <;> iassumption
  isplitl [HsF HF]
  · isplitl [HsF] <;> iassumption
  isplitl [Hw] <;> iassumption

/-- The weights and the result, right on the blocks done. -/
def blocks (c : Dev nD) (hs : List (Fin 7)) : sProp 𝕄 := iprop(wPts w c ∗ outE X w k c (filled c hs))

/-- The hop loop. -/
theorem wp_hops (c : Dev nD) (Q : PUnit → sProp 𝕄) :
    iprop((st X K c (hopSends six) ∗ blocks X w k c [])
        ∗ (sepL (fun h : Fin 6 => waitHop c true h.castSucc) six ∗ sepL (fun h : Fin 6 => unsentHop c true h.succ) six)
        ∗ (sepL (fun h : Fin 6 => waitHop c false h.castSucc) six ∗ sepL (fun h : Fin 6 => unsentHop c false h.succ) six))
      ⊢ iprop((((st X K c [] ∗ blocks X w k c [5, 4, 3, 2, 1, 0])
          ∗ (sepL (fun h : Fin 6 => arrHop X c true h.castSucc) six ∗ sepL (fun h : Fin 6 => flyHop c true h.succ) six)
          ∗ (sepL (fun h : Fin 6 => arrHop X c false h.castSucc) six ∗ sepL (fun h : Fin 6 => flyHop c false h.succ) six)) -∗ Q ⟨⟩)
        -∗ wpc c (forL (hopOp c k) six) Q) := by
  rw [← sepL_sep, ← sepL_sep, ← sepL_sep, ← sepL_sep, ← sepL_sep, ← sepL_sep]
  refine wp_loop (hopOp c k) (fun done rest => iprop(st X K c (hopSends rest) ∗ blocks X w k c (done.map Fin.castSucc))) _ _ six
    (Entails.refl _) (Entails.refl _) (fun done a rest ha Q => ?_) Q
  show iprop((st X K c (hopSends (a :: rest)) ∗ blocks X w k c (done.map Fin.castSucc))
      ∗ (waitHop c true a.castSucc ∗ unsentHop c true a.succ) ∗ (waitHop c false a.castSucc ∗ unsentHop c false a.succ))
    ⊢ iprop((((st X K c (hopSends rest) ∗ blocks X w k c (a.castSucc :: done.map Fin.castSucc))
        ∗ (arrHop X c true a.castSucc ∗ flyHop c true a.succ) ∗ (arrHop X c false a.castSucc ∗ flyHop c false a.succ)) -∗ Q ⟨⟩)
        -∗ wpc c (hopOp c k a) Q)
  unfold hopOp blocks
  iintro ⟨⟨Hst, Hb⟩, HT, HF⟩ HQ
  rw [wpc, wp_bind]
  iapply (wp_relays X K c a rest ha _) $$ [Hst HT HF]
  · isplitl [Hst]; · iexact Hst
    isplitl [HT] <;> iassumption
  iintro ⟨Hst, ⟨HaT, HfT⟩, ⟨HaF, HfF⟩⟩
  rw [wp_bind]
  iapply (wp_products X w k c a.castSucc (done.map Fin.castSucc) Q) $$ [HaT HaF Hb]
  · isplitl [HaT]; · iexact HaT
    isplitl [HaF] <;> iassumption
  iintro ⟨HaT, HaF, Hb⟩
  iapply HQ
  isplitl [Hst Hb]
  · isplitl [Hst] <;> iassumption
  isplitl [HaT HfT]
  · isplitl [HaT] <;> iassumption
  isplitl [HaF] <;> iassumption

/-- The last hop's arrivals. -/
theorem wp_lastRecvs (c : Dev nD) (d : Bool) (Q : PUnit → sProp 𝕄) :
    iprop(st X K c [] ∗ waitHop c d 6)
      ⊢ iprop(((st X K c [] ∗ arrHop X c d 6 ∗ hopPts X c d 6 fullShare.right) -∗ Q ⟨⟩) -∗ wpc c (forL (recvOp d 6) four) Q) := by
  unfold waitHop arrHop hopPts
  rw [← sepL_sep]
  refine wp_loop (recvOp d 6) (fun _ _ => st X K c []) _ _ four (Entails.refl _) (Entails.refl _) (fun _ s ss _ Q => ?_) Q
  show iprop(st X K c [] ∗ waiting c d 6 s)
    ⊢ iprop(((st X K c [] ∗ arrived X c d 6 s ∗ piecePts X c d 6 s fullShare.right) -∗ Q ⟨⟩) -∗ wpc c (recvOp d 6 s) Q)
  unfold st
  iintro ⟨⟨#Hc, HO⟩, Hw⟩ HQ
  iapply (wp_recvOp X K c d 6 s [] (fun e he => absurd he List.not_mem_nil) Q) $$ [HO Hw]
  · isplitr; · iexact Hc
    isplitl [HO] <;> iassumption
  iintro ⟨HO, Ha, Hr⟩
  iapply HQ
  isplitl [HO]
  · isplitr; · iexact Hc
    iexact HO
  isplitl [Ha] <;> iassumption

/-- The waits for a direction's sends. -/
theorem wp_dones (c : Dev nD) (d : Bool) (Q : PUnit → sProp 𝕄) :
    iprop(st X K c [] ∗ sepL (flyHop c d) seven)
      ⊢ iprop(((st X K c [] ∗ sepL (retHop X c d) seven) -∗ Q ⟨⟩) -∗ wpc c (forL (fun h => forL (doneOp d h) four) seven) Q) := by
  refine wp_loop (fun h => forL (doneOp d h) four) (fun _ _ => st X K c []) _ _ seven (Entails.refl _) (Entails.refl _) (fun _ h hs _ Q => ?_) Q
  show iprop(st X K c [] ∗ sepL (flying c d h) four)
    ⊢ iprop(((st X K c [] ∗ sepL (returned X c d h) four) -∗ Q ⟨⟩) -∗ wpc c (forL (doneOp d h) four) Q)
  refine wp_loop (doneOp d h) (fun _ _ => st X K c []) _ _ four (Entails.refl _) (Entails.refl _) (fun _ s ss _ Q => ?_) Q
  show iprop((ctx X K ∗ owesE c 0) ∗ flying c d h s)
    ⊢ iprop((((ctx X K ∗ owesE c 0) ∗ returned X c d h s) -∗ Q ⟨⟩) -∗ wpc c (doneOp d h s) Q)
  iintro ⟨⟨#Hc, HO⟩, Hf⟩ HQ
  iapply (wp_doneOp X K c d h s Q) $$ [HO Hf]
  · isplitr; · iexact Hc
    isplitl [HO] <;> iassumption
  iintro ⟨HO, Hr⟩
  iapply HQ
  isplitl [HO]
  · isplitr; · iexact Hc
    iexact HO
  iexact Hr

/-! ## All the hops of a direction -/

omit [FloatOps F] in
theorem sepL_append {ι : Type} (Φ : ι → sProp 𝕄) : ∀ l l' : List ι, sepL Φ (l ++ l') = iprop(sepL Φ l ∗ sepL Φ l')
  | [], l' => BI.Entails.antisymm (emp_sep (PROP := sProp 𝕄)).2 (emp_sep (PROP := sProp 𝕄)).1
  | a :: l, l' => by
    show iprop(Φ a ∗ sepL Φ (l ++ l')) = iprop((Φ a ∗ sepL Φ l) ∗ sepL Φ l')
    rw [sepL_append Φ l l']
    exact BI.Entails.antisymm (sep_assoc (PROP := sProp 𝕄)).2 (sep_assoc (PROP := sProp 𝕄)).1

omit [FloatOps F] in
/-- The first hop apart, -/
theorem sepL_first (Φ : Fin 7 → sProp 𝕄) : sepL Φ seven = iprop(Φ 0 ∗ sepL (fun h : Fin 6 => Φ h.succ) six) := rfl
omit [FloatOps F] in
/-- and the last. -/
theorem sepL_final (Φ : Fin 7 → sProp 𝕄) : sepL Φ seven = iprop(sepL (fun h : Fin 6 => Φ h.castSucc) six ∗ Φ 6) := by
  show sepL Φ (six.map Fin.castSucc ++ [6]) = _
  rw [sepL_append, sepL_map]
  exact congrArg _ (BI.Entails.antisymm (sep_emp (PROP := sProp 𝕄)).1 (sep_emp (PROP := sProp 𝕄)).2)

/-- A direction before its first send, and after its last wait. -/
def dirPre (c : Dev nD) (d : Bool) : sProp 𝕄 := iprop(srcHop X c d 0 ∗ sepL (waitHop c d) seven ∗ sepL (unsentHop c d) seven)
def dirPost (c : Dev nD) (d : Bool) : sProp 𝕄 := iprop(sepL (retHop X c d) seven ∗ sepL (arrHop X c d) seven ∗ hopPts X c d 6 fullShare.right)

/-- The body after the handshake. -/
theorem wp_mainOp (c : Dev nD) (Q : PUnit → sProp 𝕄) :
    iprop(st X K c allSends ∗ dirPre X c true ∗ dirPre X c false ∗ xPts X c fullShare.left ∗ wPts w c ∗ outE X w k c (fun _ => False))
      ⊢ iprop(((st X K c [] ∗ dirPost X c true ∗ dirPost X c false ∗ xPts X c fullShare.left ∗ wPts w c ∗ outE X w k c (fun _ => True)) -∗ Q ⟨⟩)
          -∗ wpc c (mainOp c k) Q) := by
  unfold dirPre dirPost mainOp allSends
  rw [sepL_final (waitHop c true), sepL_final (waitHop c false), sepL_first (unsentHop c true), sepL_first (unsentHop c false),
    sepL_final (arrHop X c true), sepL_final (arrHop X c false)]
  iintro ⟨Hst, ⟨HsT, ⟨HwT, HwT6⟩, HuT0, HuT⟩, ⟨HsF, ⟨HwF, HwF6⟩, HuF0, HuF⟩, Hx, Hw, Ho⟩ HQ
  rw [wpc, wp_bind]
  iapply (wp_firstSends X K c true _ _) $$ [Hst HuT0 HsT]
  · isplitl [Hst]; · iexact Hst
    isplitl [HuT0] <;> iassumption
  iintro ⟨Hst, HfT0⟩
  rw [wp_bind]
  iapply (wp_firstSends X K c false _ _) $$ [Hst HuF0 HsF]
  · isplitl [Hst]; · iexact Hst
    isplitl [HuF0] <;> iassumption
  iintro ⟨Hst, HfF0⟩
  rw [wp_bind]
  iapply (wp_ownOp X w k c fullShare.left _ _) $$ [Hx Hw Ho]
  · isplitl [Hx]; · iexact Hx
    isplitl [Hw] <;> iassumption
  iintro ⟨Hx, Hw, Ho⟩
  ihave Ho := (outE_mono X w k c (T := filled c []) (fun i hi => Or.inl (by
    rcases hi with hi | ⟨h', hh, -⟩
    · exact hi
    · exact absurd hh List.not_mem_nil))) $$ Ho
  rw [wp_bind]
  iapply (wp_hops X K w k c _) $$ [Hst Hw Ho HwT HuT HwF HuF]
  · isplitl [Hst Hw Ho]
    · isplitl [Hst]; · iexact Hst
      unfold blocks
      isplitl [Hw] <;> iassumption
    isplitl [HwT HuT]
    · isplitl [HwT] <;> iassumption
    isplitl [HwF] <;> iassumption
  unfold blocks
  iintro ⟨⟨Hst, Hw, Ho⟩, ⟨HaT, HfT⟩, ⟨HaF, HfF⟩⟩
  rw [wp_bind]
  iapply (wp_lastRecvs X K c true _) $$ [Hst HwT6]
  · isplitl [Hst] <;> iassumption
  iintro ⟨Hst, HaT6, HrT⟩
  rw [wp_bind]
  iapply (wp_lastRecvs X K c false _) $$ [Hst HwF6]
  · isplitl [Hst] <;> iassumption
  iintro ⟨Hst, HaF6, HrF⟩
  simp only [wp_bind]
  iapply (wp_products X w k c 6 _ _) $$ [HaT6 HaF6 Hw Ho]
  · isplitl [HaT6]; · iexact HaT6
    isplitl [HaF6]; · iexact HaF6
    isplitl [Hw] <;> iassumption
  iintro ⟨HaT6, HaF6, Hw, Ho⟩
  iapply (wp_dones X K c true _) $$ [Hst HfT0 HfT]
  · isplitl [Hst]; · iexact Hst
    rw [sepL_first]
    isplitl [HfT0] <;> iassumption
  iintro ⟨Hst, HT⟩
  iapply (wp_dones X K c false _) $$ [Hst HfF0 HfF]
  · isplitl [Hst]; · iexact Hst
    rw [sepL_first]
    isplitl [HfF0] <;> iassumption
  iintro ⟨Hst, HF⟩
  iapply HQ
  isplitl [Hst]; · iexact Hst
  isplitl [HT HaT HaT6 HrT]
  · isplitl [HT]; · iexact HT
    isplitr [HrT]
    · isplitl [HaT] <;> iassumption
    iexact HrT
  isplitl [HF HaF HaF6 HrF]
  · isplitl [HF]; · iexact HF
    isplitr [HrF]
    · isplitl [HaF] <;> iassumption
    iexact HrF
  isplitl [Hx]; · iexact Hx
  isplitl [Hw]; · iexact Hw
  iapply (outE_mono X w k c (S := filled c [6, 5, 4, 3, 2, 1, 0]) (T := fun _ => True) (fun i _ => (covered c i).imp id (fun ⟨d, h, hi⟩ => ⟨h, (by decide : ∀ h : Fin 7, h ∈ [6, 5, 4, 3, 2, 1, 0]) h, d, hi⟩)))
  iexact Ho

end Cert.KernelIdeal.Ring

end
-- ==== Proof.KernelIdeal.Body.lean ====
/- The body of one device.

   From the launch's dealing a device starts with its semaphores' positions, the duties it pays and the credit of its
   arrivals; from the handshake it gets the neighbours' landing buffers. Cut into pieces, those and its own rows are
   what the loops start from; what they leave, joined again, are whole buffers and semaphores at zero. -/
module

public import proofs.«01_k».proof.Proof.KernelIdeal.Loops
public import proofs.«01_k».proof.Proof.Gen.KernelIdeal.Launch

@[expose] public section

noncomputable section

namespace Cert.KernelIdeal.Ring

open Cert.KernelIdeal Cert.KernelIdeal.Gen

open Idealize.ShloMosaic
open Idealize.ShloMosaic.TcCoe
open Idealize.ShloMosaic.Pipeline (Cfg Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Resources of every piece of every hop -/

/-- A resource of every hop and piece. -/
def sep2 (Φ : Fin 7 → Fin 4 → sProp 𝕄) : sProp 𝕄 := sepL (fun h => sepL (Φ h) four) seven

omit [FloatOps F] in
theorem sep2_mono {Φ Ψ : Fin 7 → Fin 4 → sProp 𝕄} (h : ∀ a b, Φ a b ⊢ Ψ a b) : sep2 Φ ⊢ sep2 Ψ :=
  sepL_mono (fun a => sepL_mono (h a) four) seven
omit [FloatOps F] in
theorem sep2_sep (Φ Ψ : Fin 7 → Fin 4 → sProp 𝕄) : sep2 (fun a b => iprop(Φ a b ∗ Ψ a b)) = iprop(sep2 Φ ∗ sep2 Ψ) := by
  unfold sep2
  rw [← sepL_sep]
  exact sepL_congr (fun a => sepL_sep _ _ four) seven
omit [FloatOps F] in
theorem sep2_bigSep (Φ : Fin 7 → Fin 4 → sProp 𝕄) : sep2 Φ = bigSep Finset.univ fun h => bigSep Finset.univ fun s => Φ h s := by
  unfold sep2
  rw [sepL_seven]
  exact bigSep_congr fun h _ => sepL_four _

variable (X : Dev nD → Vec F S512x4096 .i8) (K : Dev nD × Key → ℕ)

omit [FloatOps F] in
/-- A landing buffer is its pieces. -/
theorem comm_pieces (c : Dev nD) (d : Bool) (q : PosShare TreeShare) (f : Buf (Elt F) ((comm d).view.loc (c : Thread nD τ))) :
    ((comm d).view.loc (c : Thread nD τ) ↦{q} f : sProp 𝕄) = sep2 fun h s => ((comm d).view.loc (c : Thread nD τ) ↦[pset d h s]{q} f : sProp 𝕄) := by
  rw [sep2_bigSep, ← pset_univ d, pointsTo_biUnion]
  · refine bigSep_congr fun h _ => ?_
    rw [pointsTo_biUnion]
    exact fun s _ s' _ hne => pset_disjoint d fun e => hne e.2
  · intro h _ h' _ hne
    refine (Finset.disjoint_biUnion_left _ _ _).mpr fun s _ => (Finset.disjoint_biUnion_right _ _ _).mpr fun s' _ => pset_disjoint d fun e => hne e.1

omit [FloatOps F] in
/-- A landing buffer at any contents, cut. -/
theorem comm_free (c : Dev nD) (d : Bool) : (commPts c d : sProp 𝕄) ⊢ sep2 fun h s => freePts c d h s := by
  unfold commPts
  iintro ⟨%f, H⟩
  ihave H := (Entails.of_eq (comm_pieces c d fullShare f)) $$ H
  iapply (sep2_mono (Φ := fun h s => ((comm d).view.loc (c : Thread nD τ) ↦[pset d h s]{fullShare} f : sProp 𝕄)) (Ψ := fun h s => freePts c d h s) (fun h s => by
    unfold freePts
    iintro H
    iexists f
    iexact H))
  iexact H

/-- The lent share of `x` is both directions' first sources. -/
theorem x_pieces (c : Dev nD) :
    (xPts X c fullShare.right : sProp 𝕄) = iprop(srcHop X c true 0 ∗ srcHop X c false 0) := by
  have hs (d : Bool) : srcHop X c d 0 = bigSep Finset.univ fun s => (((c : Thread nD τ).loc cc0_stg0_0) ↦[xset d s]{fullShare.right} X c : sProp 𝕄) := by
    unfold srcHop
    rw [sepL_four]
    exact bigSep_congr fun s _ => rfl
  unfold xPts
  rw [hs, hs]
  show (((c : Thread nD τ).loc cc0_stg0_0) ↦[(Finset.univ : Finset S512x4096.Idx)]{fullShare.right} X c : sProp 𝕄) = _
  have hin (d : Bool) : (((c : Thread nD τ).loc cc0_stg0_0) ↦[Finset.univ.biUnion fun s : Fin 4 => xset d s]{fullShare.right} X c : sProp 𝕄)
      = bigSep Finset.univ fun s => (((c : Thread nD τ).loc cc0_stg0_0) ↦[xset d s]{fullShare.right} X c : sProp 𝕄) :=
    pointsTo_biUnion _ _ fun s _ s' _ hne => xset_disjoint fun e => hne e.2
  rw [← xset_univ, pointsTo_biUnion _ _ (fun d _ d' _ hne => (Finset.disjoint_biUnion_left _ _ _).mpr fun s _ =>
      (Finset.disjoint_biUnion_right _ _ _).mpr fun s' _ => xset_disjoint fun e => hne e.1),
    bigSep_univ_eq_bigSepL [true, false] (by decide) (by decide), bigSepL_cons_cons, bigSepL_singleton, hin, hin]
  rfl

/-! ## Entry and exit of a direction -/

/-- What the launch deals device `c` for one transfer: its two cells' positions, and the duties of the transfer it starts. -/
def xferGhost (c : Dev nD) (d : Bool) (h : Fin 7) (s : Fin 4) : sProp 𝕄 :=
  iprop((atPos ER (recvCell c (d, h, s)) 0 ∅ 0 ∗ atPos ER (sendCell c (d, h, s)) 0 ∅ 0)
    ∗ dutyTok ER (recvCell (toDev d c) (d, h, s)) 0 false ∗ dutyTok ER (sendCell c (d, h, s)) 0 false)
/-- The credit of one arrival. -/
def xferCred (c : Dev nD) (d : Bool) (h : Fin 7) (s : Fin 4) : sProp 𝕄 := cred (tallyAt (recvCell c (d, h, s)) () N)

theorem dir_enter (c : Dev nD) (d : Bool) :
    iprop(sep2 (xferGhost c d) ∗ sep2 (xferCred c d) ∗ commPts (toDev d c) d ∗ srcHop X c d 0) ⊢ dirPre X c d := by
  have key : iprop(sep2 (xferGhost (F := F) c d) ∗ sep2 (xferCred c d) ∗ sep2 (fun h s => freePts (toDev d c) d h s))
      ⊢ iprop(sepL (waitHop c d) seven ∗ sepL (unsentHop c d) seven) := by
    show _ ⊢ iprop(sep2 (waiting c d) ∗ sep2 (unsent c d))
    rw [← sep2_sep, ← sep2_sep, ← sep2_sep]
    refine sep2_mono fun h s => ?_
    unfold xferGhost xferCred waiting unsent
    iintro ⟨⟨⟨HaR, HaS⟩, HtR, HtS⟩, Hc, Hf⟩
    isplitl [HaR Hc]
    · isplitl [HaR] <;> iassumption
    isplitl [HtS]; · iexact HtS
    isplitl [HtR]; · iexact HtR
    isplitl [HaS] <;> iassumption
  unfold dirPre
  iintro ⟨Hg, Hc, Hf, Hs⟩
  ihave Hf := (comm_free (toDev d c) d) $$ Hf
  ihave H := key $$ [Hg Hc Hf]
  · isplitl [Hg]; · iexact Hg
    isplitl [Hc] <;> iassumption
  icases H with ⟨Hw, Hu⟩
  isplitl [Hs]; · iexact Hs
  isplitl [Hw]; · iexact Hw
  iexact Hu

/-- A direction's cells, closed. -/
def dirZero (c : Dev nD) (d : Bool) : sProp 𝕄 :=
  iprop(sep2 (fun h s => semVal (recvCell c (d, h, s)) 0) ∗ sep2 (fun h s => semVal (sendCell c (d, h, s)) 0))

theorem dir_exit (c : Dev nD) (d : Bool) : dirPost X c d ⊢ iprop(dirZero c d ∗ commPts c d ∗ srcHop X c d 0) := by
  have hret : sepL (retHop X c d) seven = iprop(sep2 (fun h s => semVal (sendCell c (d, h, s)) 0) ∗ sepL (srcHop X c d) seven) := by
    rw [show sepL (retHop X c d) seven = sep2 fun h s => iprop(semVal (sendCell c (d, h, s)) 0 ∗ srcPts X c d h s) from rfl, sep2_sep]; rfl
  have harr : sepL (arrHop X c d) seven = iprop(sep2 (fun h s => semVal (recvCell c (d, h, s)) 0) ∗ sep2 (fun h s => piecePts X c d h s fullShare.left)) := by
    rw [show sepL (arrHop X c d) seven = sep2 fun h s => iprop(semVal (recvCell c (d, h, s)) 0 ∗ piecePts X c d h s fullShare.left) from rfl, sep2_sep]
  have hright : iprop(sepL (fun h : Fin 6 => srcHop X c d h.succ) six ∗ hopPts X c d 6 fullShare.right)
      = (sep2 fun h s => piecePts X c d h s fullShare.right) := by
    rw [show (sep2 fun h s => piecePts X c d h s fullShare.right) = sepL (fun h => hopPts X c d h fullShare.right) seven from rfl, sepL_final]
    rw [sepL_congr (fun h : Fin 6 => show srcHop X c d h.succ = hopPts X c d h.castSucc fullShare.right from sepL_congr (fun s => srcPts_succ X c d h s) four)]
  have hjoin : iprop(sep2 (fun h s => piecePts X c d h s fullShare.left) ∗ sep2 (fun h s => piecePts X c d h s fullShare.right)) ⊢ commPts c d := by
    rw [← sep2_sep]
    refine (sep2_mono fun h s => (piecePts_halves X c d h s).2).trans ((Entails.of_eq (comm_pieces c d fullShare (landed X d c)).symm).trans ?_)
    unfold commPts
    iintro H
    iexists _
    iexact H
  unfold dirPost dirZero
  rw [hret, harr, sepL_first (srcHop X c d)]
  iintro ⟨⟨HzS, H0, Hsucc⟩, ⟨HzR, Hl⟩, Hlast⟩
  ihave Hr := (Entails.of_eq hright) $$ [Hsucc Hlast]
  · isplitl [Hsucc] <;> iassumption
  ihave Hc := hjoin $$ [Hl Hr]
  · isplitl [Hl] <;> iassumption
  isplitl [HzR HzS]
  · isplitl [HzR] <;> iassumption
  isplitl [Hc] <;> iassumption

/-! ## The handshake -/

/-- What the launch deals device `c`. -/
def ghost (c : Dev nD) : sProp 𝕄 :=
  iprop(atPos ER (barCell c) 0 ∅ 0 ∗ dutyTok ER (barCell (toDev false c)) 0 true ∗ dutyTok ER (barCell (toDev true c)) 0 false
    ∗ sep2 (xferGhost c true) ∗ sep2 (xferGhost c false))
/-- The credit it starts with. -/
def credits (c : Dev nD) : sProp 𝕄 := iprop(cred (tallyAt (barCell c) () 2) ∗ sep2 (xferCred c true) ∗ sep2 (xferCred c false))

theorem bar_duty (c : Dev nD) (b : Bool) : b ∈ (rd (F := F) X).duties (barCell c) 0 := by
  rw [duties_cell]; exact Finset.mem_univ b
/-- What a device hands over with a signal: its landing buffer of the direction the signalled neighbour sends in. -/
theorem bar_pay (c : Dev nD) (d : Bool) : commPts c d ⊢ (rd (F := F) X).payload (barCell (toDev (!d) c)) 0 d := by
  rw [payload_cell]
  show commPts c d ⊢ commPts (toDev d (toDev (!d) c)) d
  rw [toDev_back']

/-- The handshake: both landing buffers for the neighbours'. -/
theorem wp_meetOp (c : Dev nD) (Q : PUnit → sProp 𝕄) :
    iprop(ctx X K ∗ owesE c (O₀ c) ∗ atPos ER (barCell c) 0 ∅ 0 ∗ dutyTok ER (barCell (toDev false c)) 0 true ∗ dutyTok ER (barCell (toDev true c)) 0 false
        ∗ cred (tallyAt (barCell c) () 2) ∗ commPts c true ∗ commPts c false)
      ⊢ iprop(((owesE c (owedL c allSends) ∗ semVal (barCell c) 0 ∗ commPts (toDev true c) true ∗ commPts (toDev false c) false) -∗ Q ⟨⟩)
          -∗ wpc c (meetOp c) Q) := by
  unfold meetOp owesE
  simp only [semSignalWord, semWaitWord, Prog.lift, Prog.bind_op, Prog.bind_ret, Prog.pure_eq_ret]
  iintro ⟨#Hc, ⟨%W, HO⟩, Hat, HtF, HtT, Hcr, HbT, HbF⟩ HQ
  ihave #Hi := (ctx_inv X K c none) $$ Hc
  ihave #HiF := (ctx_inv X K (toDev false c) none) $$ Hc
  ihave #HiT := (ctx_inv X K (toDev true c) none) $$ Hc
  ihave #HrF := (ctx_reached X K (toDev false c) none) $$ Hc
  ihave #HrT := (ctx_reached X K (toDev true c) none) $$ Hc
  ihave #Hlev := (ctx_lev X K) $$ Hc
  iapply (Rounds.wp_signal 𝒱₀ ER (rd X) (c : Thread nD τ) none (dst := (toDev false c : Thread nD τ)) (κ := K (toDev false c, none))
      (d := true) (bar_duty X (toDev false c) true) ((amount_cell X (toDev false c) none true).trans (by decide)) () (O₁ c) rfl) $$ [HO HtF HbT]
  · isplitr; · iexact HiF
    isplitl [HO]; · iexact HO
    isplitl [HtF]; · iexact HtF
    isplitl [HbT]; · iapply (show commPts c true ⊢ (rd X).payload ((toDev false c : Thread nD τ), .reg barS) 0 true from bar_pay X c true); iexact HbT
    iexact HrF
  iintro HO
  iapply (Rounds.wp_signal 𝒱₀ ER (rd X) (c : Thread nD τ) none (dst := (toDev true c : Thread nD τ)) (κ := K (toDev true c, none))
      (d := false) (bar_duty X (toDev true c) false) ((amount_cell X (toDev true c) none false).trans (by decide)) () (owedL c allSends) rfl) $$ [HO HtT HbF]
  · isplitr; · iexact HiT
    isplitl [HO]; · iexact HO
    isplitl [HtT]; · iexact HtT
    isplitl [HbF]; · iapply (show commPts c false ⊢ (rd X).payload ((toDev true c : Thread nD τ), .reg barS) 0 false from bar_pay X c false); iexact HbF
    iexact HrT
  iintro HO
  iapply (Rounds.wp_wait_rest_token 𝒱₀ ER (rd X) (c : Thread nD τ) none (κ := K (c, none))
      (wpE_semWait_eq 𝒱₀ (c : Thread nD τ) none Set.univ) (Set.mem_univ _) () (O := owedL c allSends) (W := W) (R := 0) (m := 0) (T := ∅)
      (show 0 + (2#32).toNat = _ from (expect_bar X c).symm)) $$ [Hcr HO Hat]
  · isplitr; · iexact Hi
    isplitl [Hcr]; · iexact Hcr
    isplitl [HO]; · iexact HO
    isplitr
    · iapply (mayWait_owedL c none allSends (fun e _ => Nat.lt_of_lt_of_le (by decide : 1 < 2) (Nat.le_add_right 2 _))); iexact Hlev
    iexact Hat
  iintro ⟨HO, Hat, -, Hpay⟩
  ihave Hp := (Entails.of_eq (show bigSep ((rd (F := F) X).duties ((c : Thread nD τ), .reg barS) 0 \ ∅) (fun b => (rd (F := F) X).payload ((c : Thread nD τ), .reg barS) 0 b)
    = iprop(commPts (toDev true c) true ∗ commPts (toDev false c) false) from rest_bar X c)) $$ Hpay
  imod (Rounds.cell_close ER (rd X) (Set.mem_univ (K (c, none))) (fun h => h) (R := 0 + 1) (duties_later X (barCell c))) $$ [Hat] with Hz
  · isplitr; · iexact Hi
    iexact Hat
  rw [wp_ret]
  imodintro
  iapply HQ
  isplitl [HO]; · iexists _; iexact HO
  isplitl [Hz]; · iexact Hz
  iexact Hp

/-! ## The whole body -/

def i0 : S1.Idx := fun a => ⟨0, by fin_cases a; decide⟩
/-- The product of the two scales. -/
def scale (a b : Vec F S1 .f32) : F .f32 := Scalar.mulf (a i0) (b i0)

omit [FloatOps F] in
theorem idx1 (x : S1.Idx) : x = i0 := funext fun a => by
  fin_cases a; exact Subsingleton.elim (α := Fin 1) _ _

abbrev sRect : Rect S1 := Rect.unit (s := S1) ![0] S1.size inb_S1_S1_0

def sxPts (c : Dev nD) (a : Vec F S1 .f32) : sProp 𝕄 := ((c : Thread nD τ).loc cc0_stg2_0) ↦{fullShare} a
def swPts (c : Dev nD) (b : Vec F S1 .f32) : sProp 𝕄 := ((c : Thread nD τ).loc cc0_stg3_0) ↦{fullShare} b

theorem wp_sx (c : Dev nD) (a : Vec F S1 .f32) (Q : F .f32 → sProp 𝕄) :
    sxPts c a ⊢ iprop((sxPts c a -∗ Q (a i0)) -∗ wpc c (smemLoad sxM sRect numel1_S1 rfl) Q) := by
  unfold sxPts smemLoad
  iintro H HQ
  iapply (wp_smemLoadElt 𝒱₀ (c : Thread nD τ) none Set.univ (m := sxM) (r := sRect) (Finset.subset_univ _)) $$ H
  iintro H
  rw [wp_ret]
  imodintro
  rw [show ∀ x, (sxM.access sRect).read (Elt F) a x = a i0 from fun x => congrArg a (idx1 _)]
  iapply HQ
  iexact H
theorem wp_sw (c : Dev nD) (b : Vec F S1 .f32) (Q : F .f32 → sProp 𝕄) :
    swPts c b ⊢ iprop((swPts c b -∗ Q (b i0)) -∗ wpc c (smemLoad swM sRect numel1_S1 rfl) Q) := by
  unfold swPts smemLoad
  iintro H HQ
  iapply (wp_smemLoadElt 𝒱₀ (c : Thread nD τ) none Set.univ (m := swM) (r := sRect) (Finset.subset_univ _)) $$ H
  iintro H
  rw [wp_ret]
  imodintro
  rw [show ∀ x, (swM.access sRect).read (Elt F) b x = b i0 from fun x => congrArg b (idx1 _)]
  iapply HQ
  iexact H

/-- What the launch leaves when the body is done: its cells at zero and its landing buffers whole. -/
def closed (c : Dev nD) : sProp 𝕄 :=
  iprop(semVal (barCell c) 0 ∗ (dirZero c true ∗ dirZero c false) ∗ commPts c true ∗ commPts c false)

theorem x_halves (c : Dev nD) : xPts X c fullShare ⊣⊢ iprop(xPts X c fullShare.left ∗ xPts X c fullShare.right) :=
  pointsTo_share (PosShare.mem_left_op_right fullShare)

/-- The body of device `c` leaves the result, its inputs as they were, nothing owed and its cells closed. -/
theorem wp_body (c : Dev nD) (w : Vec F S4096x256 .i8) (a b : Vec F S1 .f32) (Q : PUnit → sProp 𝕄) :
    iprop(ctx X K ∗ owesE c (O₀ c) ∗ (ghost c ∗ credits c) ∗ (commPts c true ∗ commPts c false)
        ∗ xPts X c fullShare ∗ wPts w c ∗ sxPts c a ∗ swPts c b ∗ (∃ g : Vec F S4096x256 .f32, ((c : Thread nD τ).loc cc0_stg4_0) ↦{fullShare} g))
      ⊢ iprop(((owesE c 0 ∗ closed c ∗ xPts X c fullShare ∗ wPts w c ∗ sxPts c a ∗ swPts c b
          ∗ (((c : Thread nD τ).loc cc0_stg4_0) ↦{fullShare} outAt X w (scale a b) c)) -∗ Q ⟨⟩) -∗ wpc c body Q) := by
  unfold body ghost credits closed scale
  iintro ⟨#Hc, HO, ⟨⟨Hat, HtF, HtT, HgT, HgF⟩, Hcb, HcT, HcF⟩, ⟨HbT, HbF⟩, Hx, Hw, Hsx, Hsw, ⟨%g, Ho⟩⟩ HQ
  simp only [Prog.lift, Prog.bind_op, Prog.bind_ret]
  rw [wpc, wp_deviceId, wp_bind]
  iapply (wp_meetOp X K c _) $$ [HO Hat HtF HtT Hcb HbT HbF]
  · isplitr; · iexact Hc
    isplitl [HO]; · iexact HO
    isplitl [Hat]; · iexact Hat
    isplitl [HtF]; · iexact HtF
    isplitl [HtT]; · iexact HtT
    isplitl [Hcb]; · iexact Hcb
    isplitl [HbT] <;> iassumption
  iintro ⟨HO, Hz, HnT, HnF⟩
  rw [wp_bind]
  iapply (wp_sx c a _) $$ Hsx
  iintro Hsx
  rw [wp_bind]
  iapply (wp_sw c b _) $$ Hsw
  iintro Hsw
  ihave Hxx := (x_halves X c).1 $$ Hx
  icases Hxx with ⟨Hxl, Hxr⟩
  ihave Hxr := (Entails.of_eq (x_pieces X c)) $$ Hxr
  icases Hxr with ⟨HsT, HsF⟩
  ihave HT := (dir_enter X c true) $$ [HgT HcT HnT HsT]
  · isplitl [HgT]; · iexact HgT
    isplitl [HcT]; · iexact HcT
    isplitl [HnT] <;> iassumption
  ihave HF := (dir_enter X c false) $$ [HgF HcF HnF HsF]
  · isplitl [HgF]; · iexact HgF
    isplitl [HcF]; · iexact HcF
    isplitl [HnF] <;> iassumption
  iapply (wp_mainOp X K w (Scalar.mulf (a i0) (b i0)) c Q) $$ [HO HT HF Hxl Hw Ho]
  · unfold st outE
    isplitl [HO]
    · isplitr; · iexact Hc
      iexact HO
    isplitl [HT]; · iexact HT
    isplitl [HF]; · iexact HF
    isplitl [Hxl]; · iexact Hxl
    isplitl [Hw]; · iexact Hw
    iexists g
    isplitr; · ipureintro; exact fun _ h => h.elim
    iexact Ho
  unfold st outE
  iintro ⟨⟨-, HO⟩, HT, HF, Hxl, Hw, ⟨%g', %hg, Ho⟩⟩
  ihave HT := (dir_exit X c true) $$ HT
  icases HT with ⟨HzT, HbT, HsT⟩
  ihave HF := (dir_exit X c false) $$ HF
  icases HF with ⟨HzF, HbF, HsF⟩
  have hg' : g' = outAt X w (Scalar.mulf (a i0) (b i0)) c := funext fun i => hg i trivial
  subst hg'
  iapply HQ
  isplitl [HO]; · iexact HO
  isplitl [Hz HzT HzF HbT HbF]
  · isplitl [Hz]; · iexact Hz
    isplitl [HzT HzF]
    · isplitl [HzT] <;> iassumption
    isplitl [HbT] <;> iassumption
  isplitl [Hxl HsT HsF]
  · iapply (x_halves X c).2
    isplitl [Hxl]; · iexact Hxl
    iapply (Entails.of_eq (x_pieces X c).symm)
    isplitl [HsT] <;> iassumption
  isplitl [Hw]; · iexact Hw
  isplitl [Hsx]; · iexact Hsx
  isplitl [Hsw]; · iexact Hsw
  iexact Ho

end Cert.KernelIdeal.Ring

end
-- ==== Proof.KernelIdeal.Dealing.lean ====
/- What the launch deals each device.

   The launch mints every cell's state and duties on the device the cell belongs to. One step over the whole mesh
   opens all the cells, shares their records with every device, and passes each duty to the device that pays it: an
   arrival's to the device the piece comes from, a barrier's two to the two neighbours. The credit a device starts
   with is the sum of what all the devices owe its cells. -/
module

public import proofs.«01_k».proof.Proof.KernelIdeal.Body

@[expose] public section

noncomputable section

namespace Cert.KernelIdeal.Ring

open Cert.KernelIdeal Cert.KernelIdeal.Gen

open Idealize.ShloMosaic
open Idealize.ShloMosaic.TcCoe
open Idealize.ShloMosaic.Pipeline (Cfg Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .i8)

/-! ## Families over the cells and over the transfers -/

omit [FloatOps F] in
theorem bigSep_bool (Φ : Bool → sProp 𝕄) : bigSep Finset.univ Φ = iprop(Φ true ∗ Φ false) :=
  bigSep_univ_eq_bigSepL [true, false] (by decide) (by decide) Φ

omit [FloatOps F] in
/-- A family over a device's cells: its barrier, its arrival cells and its send cells. -/
theorem bigSep_key (Φ : Key → sProp 𝕄) :
    bigSep Finset.univ Φ = iprop(Φ none ∗ (bigSep Finset.univ fun e : Xfer => Φ (some (true, e))) ∗ bigSep Finset.univ fun e : Xfer => Φ (some (false, e))) := by
  have h : (Finset.univ : Finset Key).erase none = Finset.univ.map Function.Embedding.some := by
    ext x; cases x <;> simp
  rw [bigSep_univ_at Φ none, h, bigSep_map, bigSep_univ_prod, bigSep_bool]
  rfl

omit [FloatOps F] in
/-- A family over the transfers: either direction's, hop by hop and piece by piece. -/
theorem bigSep_xfer (Φ : Xfer → sProp 𝕄) :
    bigSep Finset.univ Φ = iprop(sep2 (fun h s => Φ (true, h, s)) ∗ sep2 (fun h s => Φ (false, h, s))) := by
  rw [bigSep_univ_prod, bigSep_bool, bigSep_univ_prod, bigSep_univ_prod, sep2_bigSep, sep2_bigSep]

/-! ## Minting -/

def cellAt (ck : Dev nD × Key) : GSem nD τ sig := cell ck.1 ck.2
theorem cellAt_inj : Function.Injective cellAt := by
  rintro ⟨c, k⟩ ⟨c', k'⟩ h
  obtain ⟨h1, h2⟩ := cell_inj h
  exact Prod.ext h1 h2
def ringCells : Finset (GSem nD τ sig) := Finset.univ.map ⟨cellAt, cellAt_inj⟩

/-- A device's duties as minted: its barrier's two, and one of each other cell. -/
def tokOf (cj : Dev nD × (Bool ⊕ (Bool × Xfer))) : GSem nD τ sig × ℕ × Bool := match cj.2 with
  | .inl b => (barCell cj.1, 0, b)
  | .inr k => (cell cj.1 (some k), 0, false)
theorem tokOf_inj : Function.Injective tokOf := by
  rintro ⟨c, j⟩ ⟨c', j'⟩ h
  have hc := congrArg (fun x : GSem nD τ sig × ℕ × Bool => x.1) h
  have hb := congrArg (fun x : GSem nD τ sig × ℕ × Bool => x.2.2) h
  cases j <;> cases j' <;> obtain ⟨h1, h2⟩ := cell_inj hc
  · exact Prod.ext h1 (congrArg Sum.inl hb)
  · cases h2
  · cases h2
  · exact Prod.ext h1 (congrArg Sum.inr (Option.some.inj h2))
def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-- The duties of device `c`'s own cells. -/
def toks (c : Dev nD) : sProp 𝕄 :=
  iprop((dutyTok ER (barCell c) 0 true ∗ dutyTok ER (barCell c) 0 false)
    ∗ (bigSep Finset.univ fun e : Xfer => dutyTok ER (recvCell c e) 0 false) ∗ bigSep Finset.univ fun e : Xfer => dutyTok ER (sendCell c e) 0 false)

/-- What is minted on device `c`. -/
def G (c : Dev nD) : sProp 𝕄 :=
  iprop((bigSep Finset.univ fun k : Key => roundState ER (rd X) (cell c k) 0)
    ∗ (bigSep Finset.univ fun k : Key => atPos ER (cell c k) 0 ∅ 0) ∗ (bigSep Finset.univ fun k : Key => reached ER (cell c k) 0) ∗ toks c)

theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun k : Key => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_bool]
    rw [bigSep_univ_prod (fun b : Bool × Xfer => _), bigSep_bool]
    rfl
  iintro HX
  imod (Rounds.fund ER (rd X) ringCells ringToks) $$ HX with ⟨Hst, Hr, Hat, Htok⟩
  imodintro
  ihave Hst' := (Entails.of_eq (hX fun g => roundState ER (rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## Opening the cells -/

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun e : Xfer => semVal (recvCell c e) 0) ∗ bigSep Finset.univ fun e : Xfer => semVal (sendCell c e) 0) := by
  unfold Pipeline.ownSems0
  rw [bigSep_univ_prod, bigSep_bool]
  rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (cell c k) 0 : sProp 𝕄) := by
  rw [ownSems0_eq, unscopedSems0_eq, bigSep_key]
  iintro ⟨H1, H2⟩
  isplitl [H2] <;> iassumption

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k : Key => iprop(∃ κ : ℕ, cellInv ER (rd X) κ (cell c k)))
          ∗ (bigSep Finset.univ fun k : Key => atPos ER (cell c k) 0 ∅ 0) ∗ (bigSep Finset.univ fun k : Key => reached ER (cell c k) 0) ∗ toks c) := by
  unfold G
  iintro ⟨Hos, Hus, Hst, Hrest⟩
  ihave Hv := (sems0_eq (F := F) c) $$ [Hos Hus]
  · isplitl [Hos] <;> iassumption
  imod (show iprop((bigSep Finset.univ fun k : Key => semVal (cell c k) 0) ∗ bigSep Finset.univ fun k : Key => roundState ER (rd X) (cell c k) 0)
      ⊢ (|={Set.univ}=> bigSep Finset.univ fun k : Key => iprop(∃ κ : ℕ, cellInv ER (rd X) κ (cell c k)) : sProp 𝕄) from by
        rw [← bigSep_sep']
        exact (bigSep_mono fun k _ => (Rounds.body_intro ER (rd X) (cell c k)).trans inv_alloc).trans (bigSep_fupd _ _)) $$ [Hv Hst] with Hinv
  · isplitl [Hv] <;> iassumption
  imodintro
  isplitl [Hinv]; · iexact Hinv
  iexact Hrest

/-! ## Passing the duties on -/

/-- The duties device `c` pays. -/
def payToks (c : Dev nD) : sProp 𝕄 :=
  iprop((dutyTok ER (barCell (toDev false c)) 0 true ∗ dutyTok ER (barCell (toDev true c)) 0 false)
    ∗ (bigSep Finset.univ fun e : Xfer => dutyTok ER (recvCell (toDev e.1 c) e) 0 false) ∗ bigSep Finset.univ fun e : Xfer => dutyTok ER (sendCell c e) 0 false)

omit [FloatOps F] in
/-- An arrival's duty goes to the device the piece comes from. -/
theorem recv_around :
    (bigSep Finset.univ fun c : Dev nD => bigSep Finset.univ fun e : Xfer => (dutyTok ER (recvCell c e) 0 false : sProp 𝕄))
      = bigSep Finset.univ fun c : Dev nD => bigSep Finset.univ fun e : Xfer => (dutyTok ER (recvCell (toDev e.1 c) e) 0 false : sProp 𝕄) := by
  rw [bigSep_univ_comm, bigSep_univ_comm (fun (c : Dev nD) (e : Xfer) => (dutyTok ER (recvCell (toDev e.1 c) e) 0 false : sProp 𝕄))]
  exact bigSep_congr fun e _ => bigSep_univ_equiv (ring e.1) (fun c : Dev nD => (dutyTok ER (recvCell c e) 0 false : sProp 𝕄))

omit [FloatOps F] in
/-- The duties, minted where the cells are, are the duties where they are paid. -/
theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep', recv_around,
    bigSep_univ_equiv (ring false) (fun c : Dev nD => (dutyTok ER (barCell c) 0 true : sProp 𝕄)),
    bigSep_univ_equiv (ring true) (fun c : Dev nD => (dutyTok ER (barCell c) 0 false : sProp 𝕄))]
  rfl

/-- What every device shares: every cell's invariant, and that it has reached its round. -/
def records (K : Dev nD × Key → ℕ) : sProp 𝕄 :=
  iprop((bigSep Finset.univ fun ck : Dev nD × Key => cellInv ER (rd X) (K ck) (cell ck.1 ck.2))
    ∗ bigSep Finset.univ fun ck : Dev nD × Key => reached ER (cell ck.1 ck.2) 0)

instance records_persistent (K : Dev nD × Key → ℕ) : BI.Persistent (records (F := F) X K) := by unfold records; infer_instance

omit [FloatOps F] in
/-- A device's positions and the duties it pays are what its body starts from. -/
theorem ghost_intro (c : Dev nD) : iprop((bigSep Finset.univ fun k : Key => atPos ER (cell c k) 0 ∅ 0) ∗ payToks c) ⊢ (ghost c : sProp 𝕄) := by
  have hx (d : Bool) : sep2 (xferGhost (F := F) c d)
      = iprop((sep2 (fun h s => atPos ER (recvCell c (d, h, s)) 0 ∅ 0) ∗ sep2 (fun h s => atPos ER (sendCell c (d, h, s)) 0 ∅ 0))
        ∗ sep2 (fun h s => dutyTok ER (recvCell (toDev d c) (d, h, s)) 0 false) ∗ sep2 (fun h s => dutyTok ER (sendCell c (d, h, s)) 0 false)) := by
    rw [← sep2_sep, ← sep2_sep, ← sep2_sep]; rfl
  unfold ghost payToks
  rw [bigSep_key, bigSep_xfer, bigSep_xfer, bigSep_xfer, bigSep_xfer, hx, hx]
  iintro ⟨⟨Hb, ⟨HrT, HrF⟩, HsT, HsF⟩, ⟨Ht, Hf⟩, ⟨HtrT, HtrF⟩, HtsT, HtsF⟩
  isplitl [Hb]; · iexact Hb
  isplitl [Ht]; · iexact Ht
  isplitl [Hf]; · iexact Hf
  isplitl [HrT HsT HtrT HtsT]
  · isplitl [HrT HsT]
    · isplitl [HrT] <;> iassumption
    isplitl [HtrT] <;> iassumption
  isplitl [HrF HsF]
  · isplitl [HrF] <;> iassumption
  isplitl [HtrF] <;> iassumption

/-- What the step over the mesh leaves device `c`. -/
def G' (c : Dev nD) : sProp 𝕄 := iprop(∃ K, records X K ∗ ghost c)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Key => iprop(∃ κ : ℕ, cellInv ER (rd X) κ (cell c k)))
          ∗ (bigSep Finset.univ fun k : Key => atPos ER (cell c k) 0 ∅ 0) ∗ (bigSep Finset.univ fun k : Key => reached ER (cell c k) 0) ∗ toks c) : sProp 𝕄)
      ⊢ bigSep Finset.univ (G' X) := by
  rw [bigSep_sep', bigSep_sep', bigSep_sep', ← bigSep_univ_prod (fun ck : Dev nD × Key => iprop(∃ κ : ℕ, cellInv ER (rd X) κ (cell ck.1 ck.2))),
    ← bigSep_univ_prod (fun ck : Dev nD × Key => (reached ER (cell ck.1 ck.2) 0 : sProp 𝕄)), toks_around]
  iintro ⟨HI, Hat, #HR, Htok⟩
  ihave HK := (BI.bigSep_exists_pi Finset.univ (fun (ck : Dev nD × Key) (κ : ℕ) => (cellInv ER (rd X) κ (cell ck.1 ck.2) : sProp 𝕄))) $$ HI
  icases HK with ⟨%K, #HI⟩
  iapply (bigSep_with_persistent (R := records X K) (Φ := fun c : Dev nD => ghost c) (Ψ := G' X) fun c _ => by
    unfold G'
    iintro H
    iexists K
    iexact H)
  isplitr
  · unfold records
    isplitl; · iexact HI
    iexact HR
  · iapply ((Entails.of_eq (bigSep_sep' Finset.univ (fun c : Dev nD => bigSep Finset.univ fun k : Key => (atPos ER (cell c k) 0 ∅ 0 : sProp 𝕄)) payToks).symm).trans
      (bigSep_mono fun c _ => ghost_intro c))
    isplitl [Hat] <;> iassumption

/-- The step over the whole mesh. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credit at launch -/

theorem allSends_nodup : allSends.Nodup := by decide +kernel
theorem mem_allSends : ∀ e : Xfer, e ∈ allSends := by decide +kernel

theorem toDev_eq_iff (d : Bool) (a c : Dev nD) : toDev d a = c ↔ a = toDev (!d) c :=
  ⟨fun h => by rw [← h, toDev_back], fun h => by rw [h, toDev_back']⟩

/-- What device `a` owes an arrival cell of `c` is that arrival, if it is the device the piece comes from and the send is on the list. -/
theorem owedL_recv (a c : Dev nD) (e : Xfer) : ∀ l : List Xfer, l.Nodup →
    owedL a l (recvCell c e) () = if e ∈ l ∧ a = toDev (!e.1) c then N else 0
  | [], _ => by rw [if_neg fun h => absurd h.1 (by simp)]; rfl
  | e' :: l, hl => by
    have ih := owedL_recv a c e l (List.nodup_cons.mp hl).2
    rw [owedL, Pi.add_apply, Finsupp.add_apply, ih, tallyAt_apply]
    by_cases he : e = e'
    · subst he
      rw [if_neg fun h => (List.nodup_cons.mp hl).1 h.1, Nat.zero_add]
      refine if_congr ?_ rfl rfl
      constructor
      · rintro ⟨h, -⟩
        exact ⟨List.mem_cons_self, (toDev_eq_iff e.1 a c).mp (cell_inj h).1.symm⟩
      · rintro ⟨-, h⟩
        rw [(toDev_eq_iff e.1 a c).mpr h]
        exact ⟨rfl, rfl⟩
    · rw [if_neg (c := _ ∧ () = ()) fun h => he (congrArg Prod.snd (Option.some.inj (cell_inj h.1).2)), Nat.add_zero]
      refine if_congr ?_ rfl rfl
      rw [List.mem_cons, or_iff_right he]

theorem owed_recv (a c : Dev nD) (e : Xfer) : O₀ a (recvCell c e) () = if a = toDev (!e.1) c then N else 0 := by
  unfold O₀ O₁
  rw [Pi.add_apply, Finsupp.add_apply, Pi.add_apply, Finsupp.add_apply, owedL_recv a c e allSends allSends_nodup,
    tallyAt_ne_cell (fun h => absurd (cell_inj h).2 (by simp)), tallyAt_ne_cell (fun h => absurd (cell_inj h).2 (by simp)), Finsupp.zero_apply, Nat.add_zero, Nat.add_zero]
  exact if_congr (and_iff_right (mem_allSends e)) rfl rfl

theorem owed_bar (a c : Dev nD) : O₀ a (barCell c) () = (if a = toDev false c then 1 else 0) + (if a = toDev true c then 1 else 0) := by
  have h0 : owedL a allSends (barCell c) () = 0 := by
    by_contra h
    obtain ⟨e, -, he⟩ := owedL_pos (Nat.pos_of_ne_zero h)
    exact absurd (cell_inj he).2 (by simp)
  have h1 (d : Bool) : (tallyAt (barCell (toDev d a)) () 1 : CellTallies nD τ sig Unit) (barCell c) () = if a = toDev (!d) c then 1 else 0 := by
    rw [tallyAt_apply]
    refine if_congr ⟨fun h => (toDev_eq_iff d a c).mp (cell_inj h.1).1.symm, fun h => ?_⟩ rfl rfl
    rw [(toDev_eq_iff d a c).mpr h]
    exact ⟨rfl, rfl⟩
  unfold O₀ O₁
  rw [Pi.add_apply, Finsupp.add_apply, Pi.add_apply, Finsupp.add_apply, h0, h1, h1, Nat.zero_add]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (toDev false c) fun _ => 1, Finset.sum_ite_eq' Finset.univ (toDev true c) fun _ => 1, if_pos (Finset.mem_univ _), if_pos (Finset.mem_univ _)]

theorem launch_recv (c : Dev nD) (e : Xfer) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv d c e, Finset.sum_ite_eq' Finset.univ (toDev (!e.1) c) fun _ => N,
    if_pos (Finset.mem_univ _)]

def recvSem : Xfer ↪ SemLoc sig := ⟨fun e => osem (true, e), fun e e' h => congrArg Prod.snd (osem_inj h)⟩

omit [FloatOps F] in
/-- The credit at launch holds what the body needs. -/
theorem creds (c : Dev nD) : (Pipeline.launchCred O₀ c : sProp 𝕄) ⊢ credits c := by
  have hs : (Finset.univ : Finset Xfer).map recvSem ⊆ (Finset.univ : Finset (SemLoc sig)).erase (SemLoc.reg barS) := fun sm hsm => by
    obtain ⟨e, -, rfl⟩ := Finset.mem_map.mp hsm
    exact Finset.mem_erase.mpr ⟨osem_ne_bar (true, e), Finset.mem_univ _⟩
  have hr : (bigSep ((Finset.univ : Finset Xfer).map recvSem) fun sm => (cred (tallyOn ((c : Thread nD τ), sm) (launchCredit (Pipeline.owing O₀) 0 ((c : Thread nD τ), sm))) : sProp 𝕄))
      = iprop(sep2 (xferCred c true) ∗ sep2 (xferCred c false)) := by
    rw [bigSep_map, show sep2 (xferCred (F := F) c true) = sep2 (fun h s => cred (tallyAt (recvCell c (true, h, s)) () N)) from rfl,
      show sep2 (xferCred (F := F) c false) = sep2 (fun h s => cred (tallyAt (recvCell c (false, h, s)) () N)) from rfl,
      ← bigSep_xfer (fun e => cred (tallyAt (recvCell c e) () N))]
    exact bigSep_congr fun e _ => congrArg cred (launch_recv c e)
  unfold Pipeline.launchCred credits
  rw [bigSep_univ_at _ (SemLoc.reg barS), ← hr]
  exact BI.sep_mono (Entails.of_eq (congrArg cred (launch_bar c))) (bigSep_subset hs)

end Cert.KernelIdeal.Ring

end
-- ==== Proof.KernelIdeal.Launch.lean ====
/- The launch on the whole mesh.

   Every device fetches its four inputs, runs the body and writes the result back. From the body's theorem and the
   dealing, every execution ends with each device's result array holding `outAt` of the devices' inputs, the inputs as
   they were and every semaphore at zero. -/
module

public import proofs.«01_k».proof.Proof.KernelIdeal.Dealing
public import proofs.«01_k».proof.Proof.Gen.KernelIdeal.Points
public import Idealize.ShloMosaic.Lib.Pipeline.CollectiveSegs
public import Idealize.ShloMosaic.Lib.Quiescent

@[expose] public section

noncomputable section

namespace Cert.KernelIdeal.Ring

open Cert.KernelIdeal Cert.KernelIdeal.Gen

open Idealize.ShloMosaic
open Idealize.ShloMosaic.TcCoe
open Idealize.ShloMosaic.Pipeline (Cfg Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (l : Loc nD τ sig) → Buf (Elt F) l) (ρ : Dev nD → PrngReg)

/-- The state at launch. -/
def s₀ : MemSt nD τ sig (Elt F) := ⟨m, fun _ => 0, ρ⟩

/-! ## The inputs, as fetched -/

/-- What a device's staging buffers hold: its rows of `x`, -/
def xin (c : Dev nD) : Vec F S512x4096 .i8 := (win0_0.blk (0 : Fin 1)).view.read (Elt F) (m ((c : Thread nD τ).loc main_arg0))
/-- its columns of `w` -/
def win (c : Dev nD) : Vec F S4096x256 .i8 := (win0_1.blk (0 : Fin 1)).view.read (Elt F) (m ((c : Thread nD τ).loc main_arg1))
/-- and the two scales. -/
def sxin (c : Dev nD) : Vec F S1 .f32 := (win0_2.blk (0 : Fin 1)).view.read (Elt F) (m ((c : Thread nD τ).loc main_arg2))
def swin (c : Dev nD) : Vec F S1 .f32 := (win0_3.blk (0 : Fin 1)).view.read (Elt F) (m ((c : Thread nD τ).loc main_arg3))
/-- What the body leaves in the result's staging buffer. -/
def outin (c : Dev nD) : Vec F S4096x256 .f32 := outAt (xin m) (win m c) (scale (sxin m c) (swin m c)) c

/-- An input is fetched whole. -/
theorem xin_eq (c : Dev nD) : xin m c = m ((c : Thread nD τ).loc main_arg0) :=
  Memref.read_access_unit_zero (Elt F) main_arg0 (funext fun a => by fin_cases a <;> decide) (fun a => by fin_cases a <;> decide) _
theorem win_eq (c : Dev nD) : win m c = m ((c : Thread nD τ).loc main_arg1) :=
  Memref.read_access_unit_zero (Elt F) main_arg1 (funext fun a => by fin_cases a <;> decide) (fun a => by fin_cases a <;> decide) _
theorem sxin_eq (c : Dev nD) : sxin m c = m ((c : Thread nD τ).loc main_arg2) :=
  Memref.read_access_unit_zero (Elt F) main_arg2 (funext fun a => by fin_cases a; decide) (fun a => by fin_cases a; decide) _
theorem swin_eq (c : Dev nD) : swin m c = m ((c : Thread nD τ).loc main_arg3) :=
  Memref.read_access_unit_zero (Elt F) main_arg3 (funext fun a => by fin_cases a; decide) (fun a => by fin_cases a; decide) _

/-! ## The region's data -/

def start (c : Dev nD) : sProp 𝕄 := iprop((∃ K, ctx (xin m) K) ∗ ghost c ∗ credits c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => win m c
    | ⟨2, _⟩ => sxin m c
    | ⟨3, _⟩ => swin m c
    | ⟨4, _⟩ => outin m c
  Φ t := match t with
    | ⟨0, _⟩ => iprop(start m c ∗ commPts c true ∗ commPts c false)
    | ⟨_ + 1, _⟩ => closed c
  q _ := fullShare
  owed t := match t with
    | ⟨0, _⟩ => O₀ c
    | ⟨_ + 1, _⟩ => 0

omit [FloatOps F] in
theorem owns_whole_eq (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) (((c : Dev nD) : Thread nD τ).loc b), ⌜f = v⌝ ∗ (((c : Thread nD τ).loc b) ↦{fullShare} f)) := by
  unfold owns; simp only [Memref.view_whole, View.read_whole, View.set_whole]

/-- A staging buffer of device `c` holding `v`. -/
abbrev stg (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

def bodyPre (c : Dev nD) : sProp 𝕄 :=
  iprop((start m c ∗ commPts c true ∗ commPts c false)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(closed c ∗ (dats m ρ 0 c).owesAt () t0_0.succ
    ∗ stg c cc0_stg0_0 (xin m c) ∗ stg c cc0_stg1_0 (win m c) ∗ stg c cc0_stg2_0 (sxin m c) ∗ stg c cc0_stg3_0 (swin m c)
    ∗ stg c cc0_stg4_0 (outin m c))

/-- A fetched input's staging buffer holds it before the body. -/
theorem before_x (c : Dev nD) (d) : (dats m ρ 0 c).before (0 : Fin 5) t0_0 d = xin m c := by
  unfold Dat.before; rw [if_pos (fetch0_0 t0_0)]; rfl
theorem before_w (c : Dev nD) (d) : (dats m ρ 0 c).before (1 : Fin 5) t0_0 d = win m c := by
  unfold Dat.before; rw [if_pos (fetch0_1 t0_0)]; rfl
theorem before_sx (c : Dev nD) (d) : (dats m ρ 0 c).before (2 : Fin 5) t0_0 d = sxin m c := by
  unfold Dat.before; rw [if_pos (fetch0_2 t0_0)]; rfl
theorem before_sw (c : Dev nD) (d) : (dats m ρ 0 c).before (3 : Fin 5) t0_0 d = swin m c := by
  unfold Dat.before; rw [if_pos (fetch0_3 t0_0)]; rfl

omit [FloatOps F] in
/-- A staging buffer at a known value. -/
theorem stg_intro (c : Dev nD) (b : Ref sig .tc) (v : b.ty.Contents (Elt F)) : (((c : Thread nD τ).loc b) ↦{fullShare} v : sProp 𝕄) ⊢ stg c b v := by
  iintro H
  iexists v
  isplitr; · (ipureintro; rfl)
  iexact H
omit [FloatOps F] in
theorem stg_elim (c : Dev nD) (b : Ref sig .tc) (v : b.ty.Contents (Elt F)) : stg c b v ⊢ (((c : Thread nD τ).loc b) ↦{fullShare} v : sProp 𝕄) := by
  iintro ⟨%f, %h, H⟩
  subst h
  iexact H
omit [FloatOps F] in
/-- A staging buffer at any value. -/
theorem stg_any (c : Dev nD) (b : Ref sig .tc) (v : b.ty.Contents (Elt F)) :
    stg c b v ⊢ (∃ g : Buf (Elt F) ((c : Thread nD τ).loc b), ((c : Thread nD τ).loc b) ↦{fullShare} g : sProp 𝕄) := by
  iintro ⟨%f, -, H⟩
  iexists f
  iexact H

/-- The body's theorem at the region's data. -/
theorem sound_body (c : Dev nD) :
    bodyPre m ρ c ⊢ wpc c body fun _ => bodyPost m ρ c := by
  unfold bodyPre bodyPost start Dat.owesAt Pipeline.owesWithin
  simp only [before_x, before_w, before_sx, before_sw]
  rw [show (dats m ρ 0 c).owed t0_0.castSucc = O₀ c from rfl, show (dats m ρ 0 c).owed t0_0.succ = 0 from rfl]
  iintro ⟨⟨⟨⟨%K, #Hc⟩, Hg⟩, Hb⟩, ⟨%W, -, HO⟩, ⟨%d0, Hx⟩, ⟨%d1, Hw⟩, ⟨%d2, Ha⟩, ⟨%d3, Hs⟩, ⟨%d4, Ho⟩⟩
  iapply (wp_body (xin m) K c (win m c) (sxin m c) (swin m c) fun _ => _) $$ [HO Hg Hb Hx Hw Ha Hs Ho]
  · isplitr; · iexact Hc
    isplitl [HO]; · (unfold owesE; iexists W; iexact HO)
    isplitl [Hg]; · iexact Hg
    isplitl [Hb]; · iexact Hb
    isplitl [Hx]; · iapply (show _ ⊢ xPts (xin m) c fullShare from stg_elim c cc0_stg0_0 (xin m c)); iexact Hx
    isplitl [Hw]; · iapply (show _ ⊢ wPts (win m c) c from stg_elim c cc0_stg1_0 (win m c)); iexact Hw
    isplitl [Ha]; · iapply (show _ ⊢ sxPts c (sxin m c) from stg_elim c cc0_stg2_0 (sxin m c)); iexact Ha
    isplitl [Hs]; · iapply (show _ ⊢ swPts c (swin m c) from stg_elim c cc0_stg3_0 (swin m c)); iexact Hs
    iapply (stg_any c cc0_stg4_0 _); iexact Ho
  unfold owesE
  iintro ⟨⟨%W', HO⟩, Hcl, Hx, Hw, Ha, Hs, Ho⟩
  isplitl [Hcl]; · iexact Hcl
  isplitl [HO]
  · iexists W'
    isplitr; · ipureintro; exact fun _ _ => Or.inl trivial
    iexact HO
  isplitl [Hx]; · iapply (show xPts (xin m) c fullShare ⊢ _ from stg_intro c cc0_stg0_0 (xin m c)); iexact Hx
  isplitl [Hw]; · iapply (show wPts (win m c) c ⊢ _ from stg_intro c cc0_stg1_0 (win m c)); iexact Hw
  isplitl [Ha]; · iapply (show sxPts c (sxin m c) ⊢ _ from stg_intro c cc0_stg2_0 (sxin m c)); iexact Ha
  isplitl [Hs]; · iapply (show swPts c (swin m c) ⊢ _ from stg_intro c cc0_stg3_0 (swin m c)); iexact Hs
  iapply (stg_intro c cc0_stg4_0 (outin m c)); iexact Ho

set_option maxRecDepth 65536 in
/-- The region's obligation on device `c`. -/
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = (bigSep (Finset.univ : Finset (Fin 5))) from rfl]
  rw [bigSep_W0, bigSep_W0]
  simp only [owns_whole_eq]
  show bodyPre m ρ c ⊢ wp frame (wpE (defs₀ (F := F)) 𝒱₀ c none) Set.univ
    (cc0_body (F := F) xM (Memref.isWhole_whole _) wM (Memref.isWhole_whole _) sxM (Memref.isWhole_whole _) swM (Memref.isWhole_whole _)
      oM (Memref.isWhole_whole _) (Memref.whole cc0_scratch0) (Memref.isWhole_whole _) (Memref.whole cc0_scratch1) (Memref.isWhole_whole _)
      cc0_scratch2 cc0_scratch3 cc0_scratch4 cc0_scratch5) (fun _ => bodyPost m ρ c)
  rw [body_eq]
  exact sound_body m ρ c

/-! ## The theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xin m) c)
      ⊢ |={Set.univ}=> iprop(start m c ∗ emp) := by
  unfold start G' records ctx
  iintro ⟨-, Hlev, Hcr, -, ⟨%K, ⟨HI, HR⟩, HG⟩⟩
  ihave Hc := (creds (F := F) c) $$ Hcr
  imodintro
  isplitl
  · isplitl [HI HR Hlev]
    · iexists K
      isplitl [HI]; · iexact HI
      isplitl [HR] <;> iassumption
    isplitl [HG] <;> iassumption
  · iempintro

omit [FloatOps F] in
/-- The region's two scratch buffers are the landing buffers. -/
theorem rest_eq (c : Dev nD) : (Pipeline.scopedRest (Ix := Unit) (Name := ℕ) (U := UU) (Lvl := ℕ) (Val := Elt F) cfg0.spec c : sProp 𝕄)
    = iprop(commPts c true ∗ commPts c false) := (scopedRest0_eq c).trans rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ commPts c true ∗ commPts c false) from rfl, rest_eq]
  iintro ⟨Hs, -, H0, H1⟩
  isplitl [Hs]; · iexact Hs
  isplitl [H0] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = closed c from rfl, rest_eq, ownSems0_eq, unscopedSems0_eq, bigSep_xfer, bigSep_xfer]
  unfold closed dirZero
  iintro ⟨Hz, ⟨⟨HrT, HsT⟩, HrF, HsF⟩, H0, H1⟩
  isplitl [Hz]; · iexact Hz
  isplitl [HrT HsT HrF HsF]
  · isplitl [HrT HrF]
    · isplitl [HrT] <;> iassumption
    isplitl [HsT] <;> iassumption
  isplitl [H0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What window `w`'s array of device `c` ends holding. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values, from any memory with zero counters, every execution of the eight devices ends, with each
    window's array at its computed contents and every semaphore at zero. -/
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xin m)) (G' := G' (xin m)) (u₀ := u₀)
    (hu₀ := by
      unfold u₀
      iintro Hu
      ihave H := (ownU_pair _ _) $$ Hu
      icases H with ⟨HP, HX⟩
      imod (fund_ring (xin m)) $$ HX with HG
      imodintro
      isplitl [HP] <;> iassumption)
    (hglob := glob (xin m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array ends as it was. -/
theorem finalA_in (c : Dev nD) (w : Fin cfg0.W) (h : (cfg0.win w).isOut = false) :
    finalA m ρ c w = m ((cfg0.win w).arr.view.loc (c : Thread nD τ)) := (dats (F := F) m ρ 0 c).arrAt_in w h _

/-- The result's array ends holding what the body left in its staging buffer. -/
theorem finalA_out (c : Dev nD) : finalA m ρ c (4 : Fin 5) = outin m c := by
  have h : (win0_4.blk (0 : Fin 1)).view.read (Elt F) (finalA m ρ c (4 : Fin 5)) = outin m c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  rw [← h]
  exact (Memref.read_access_unit_zero (Elt F) main_v1 (funext fun a => by fin_cases a <;> decide) (fun a => by fin_cases a <;> decide) _).symm

/-- What device `c`'s result array ends holding, of the devices' inputs in memory. -/
def result (c : Dev nD) : Vec F S4096x256 .f32 :=
  outAt (fun d => m ((d : Thread nD τ).loc main_arg0)) (m ((c : Thread nD τ).loc main_arg1))
    (scale (m ((c : Thread nD τ).loc main_arg2)) (m ((c : Thread nD τ).loc main_arg3))) c

theorem outin_eq (c : Dev nD) : outin m c = result m c := by
  unfold outin result
  rw [show xin m = fun d : Dev nD => m ((d : Thread nD τ).loc main_arg0) from funext (xin_eq m), win_eq, sxin_eq, swin_eq]

/-- For any float values, from any memory with zero counters, every execution of the eight devices ends: each device's
    result array holds `result`, its inputs are as they were, and every semaphore is at zero. -/
theorem run_main : θ_run defs (onTc (τ := τ) (main (F := F))) (s₀ m ρ) (fun r =>
    (∀ c : Dev nD, r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c =>
    ⟨(h.1 c (4 : Fin 5)).trans ((finalA_out m ρ c).trans (outin_eq m c)), (h.1 c (0 : Fin 5)).trans (finalA_in m ρ c (0 : Fin 5) rfl),
      (h.1 c (1 : Fin 5)).trans (finalA_in m ρ c (1 : Fin 5) rfl), (h.1 c (2 : Fin 5)).trans (finalA_in m ρ c (2 : Fin 5) rfl),
      (h.1 c (3 : Fin 5)).trans (finalA_in m ρ c (3 : Fin 5) rfl)⟩, h.2⟩) (run_windows m ρ)

end Cert.KernelIdeal.Ring

end
-- ==== Proof.Frames.lean ====
/- The frames: every execution of each program ends, with the arguments as they were and every semaphore at zero. -/
module

public import proofs.«01_k».proof.Defs
public import proofs.«01_k».proof.Proof.Kernel.Launch
public import proofs.«01_k».proof.Proof.KernelIdeal.Launch
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

theorem kernel : Cert.quiescent_Kernel := fun m ρ _ =>
  (θ_run _ _ _).mono (fun _ h => ⟨fun c => (h.1 c).2, h.2⟩) (Cert.Kernel.Ring.run_main m ρ)

theorem kernelIdeal : Cert.quiescent_KernelIdeal := fun m ρ _ =>
  (θ_run _ _ _).mono (fun _ h => ⟨fun c => (h.1 c).2, h.2⟩) (Cert.KernelIdeal.Ring.run_main m ρ)

theorem kernelIdeal_pre [Cert.Pre_tame_KernelIdeal.Facts] : Cert.quiescent_KernelIdeal_pre_tame_KernelIdeal := fun m ρ _ => kernelIdeal m ρ trivial

theorem referenceIdeal : Cert.quiescent_ReferenceIdeal := fun m ρ _ =>
  (θ_run _ _ _).mono (fun r h => ⟨fun c => (h c).2, sem_eq_zero_of_no_sems (by decide) r.2⟩) (Cert.ReferenceIdeal.Value.run m ρ)

theorem referenceIdeal_pre [Cert.Pre_tame_ReferenceIdeal.Facts] : Cert.quiescent_ReferenceIdeal_pre_tame_ReferenceIdeal := fun m ρ _ =>
  referenceIdeal m ρ trivial

end Cert.Frames

end
-- ==== Proof.Value.Entries.lean ====
/- An entry of a product of two arrays of bytes.

   The entry is a whole number, the sum of the products along the contracted axis; its mass is the sum of those
   products' magnitudes. The integer product's word is that number wherever the mass is below 2^24, the product of the
   same bytes read as real numbers is that number everywhere, and the product of their magnitudes is the mass. -/
module

public import Idealize.ShloMosaic.Lib.IntMxu
public import Idealize.ShloMosaic.Lib.IdealHost
public import Idealize.ShloMosaic.Lib.ValueIdx

@[expose] public section

noncomputable section

namespace Cert.Entries

open Idealize.ShloMosaic Idealize.ShloMosaic.ValueIdx

variable {m k n : ℕ}

/-- Entry `(a, b)` of the product. -/
def entry (A : IVec ⟨2, ![m, k]⟩ 8) (B : IVec ⟨2, ![k, n]⟩ 8) (a : Fin m) (b : Fin n) : ℤ :=
  ∑ c : Fin k, (A (ix2 a c)).toInt * (B (ix2 c b)).toInt

/-- The sum of the magnitudes of the entry's products. -/
def mass (A : IVec ⟨2, ![m, k]⟩ 8) (B : IVec ⟨2, ![k, n]⟩ 8) (a : Fin m) (b : Fin n) : ℕ :=
  ∑ c : Fin k, ((A (ix2 a c)).toInt * (B (ix2 c b)).toInt).natAbs

/-- An entry depends on its row and its column alone, -/
theorem entry_congr {m' n' : ℕ} {A : IVec ⟨2, ![m, k]⟩ 8} {B : IVec ⟨2, ![k, n]⟩ 8} {A' : IVec ⟨2, ![m', k]⟩ 8} {B' : IVec ⟨2, ![k, n']⟩ 8}
    {a : Fin m} {b : Fin n} {a' : Fin m'} {b' : Fin n'} (hA : ∀ c, A (ix2 a c) = A' (ix2 a' c)) (hB : ∀ c, B (ix2 c b) = B' (ix2 c b')) :
    entry A B a b = entry A' B' a' b' :=
  Finset.sum_congr rfl fun c _ => by rw [hA, hB]

/-- and so does its mass. -/
theorem mass_congr {m' n' : ℕ} {A : IVec ⟨2, ![m, k]⟩ 8} {B : IVec ⟨2, ![k, n]⟩ 8} {A' : IVec ⟨2, ![m', k]⟩ 8} {B' : IVec ⟨2, ![k, n']⟩ 8}
    {a : Fin m} {b : Fin n} {a' : Fin m'} {b' : Fin n'} (hA : ∀ c, A (ix2 a c) = A' (ix2 a' c)) (hB : ∀ c, B (ix2 c b) = B' (ix2 c b')) :
    mass A B a b = mass A' B' a' b' :=
  Finset.sum_congr rfl fun c _ => by rw [hA, hB]

/-! ## The plain product's indices -/

/-- The contracted axis of the plain product. -/
def along (m k n : ℕ) : (DotDims.plain m k n).contr.Idx ≃ Fin k := contrEquiv1 (DotDims.plain m k n) k rfl rfl

theorem lhsIdx_along (a : Fin m) (b : Fin n) (c : Fin k) : (DotDims.plain m k n).lhsIdx (ix2 a b) ((along m k n).symm c) = ix2 a c := by
  funext x
  refine Fin.ext ?_
  match x with
  | ⟨0, _⟩ => rfl
  | ⟨1, _⟩ => exact contrEquiv1_symm_val (DotDims.plain m k n) k rfl rfl c

theorem rhsIdx_along (a : Fin m) (b : Fin n) (c : Fin k) : (DotDims.plain m k n).rhsIdx (ix2 a b) ((along m k n).symm c) = ix2 c b := by
  funext x
  refine Fin.ext ?_
  match x with
  | ⟨0, _⟩ => exact contrEquiv1_symm_val (DotDims.plain m k n) k rfl rfl c
  | ⟨1, _⟩ => rfl

/-- A sum over the contracted axis, by coordinates. -/
theorem sum_along {M α β : Type} [AddCommMonoid M] (f : α → β → M) (A : (⟨2, ![m, k]⟩ : Shape).Idx → α) (B : (⟨2, ![k, n]⟩ : Shape).Idx → β)
    (a : Fin m) (b : Fin n) :
    ∑ q : (DotDims.plain m k n).contr.Idx, f (A ((DotDims.plain m k n).lhsIdx (ix2 a b) q)) (B ((DotDims.plain m k n).rhsIdx (ix2 a b) q))
      = ∑ c : Fin k, f (A (ix2 a c)) (B (ix2 c b)) := by
  rw [← Equiv.sum_comp (along m k n).symm]
  exact Finset.sum_congr rfl fun c _ => by rw [lhsIdx_along, rhsIdx_along]

/-! ## The integer product -/

/-- Below 2^24 of mass the integer product's word is the entry. -/
theorem word_eq (A : IVec ⟨2, ![m, k]⟩ 8) (B : IVec ⟨2, ![k, n]⟩ 8) (a : Fin m) (b : Fin n) (h : mass A B a b < 2 ^ 24) :
    (matmulI8 IntMxuNumerics.v7x (DotDims.plain m k n) A B (constantI ⟨2, ![m, n]⟩ 32 0#32) (ix2 a b)).toInt = entry A B a b := by
  have hS : absDotI8 (DotDims.plain m k n) A B (ix2 a b) = mass A B a b :=
    sum_along (fun (x y : BitVec 8) => (x.toInt * y.toInt).natAbs) A B a b
  rw [matmulI8_toInt _ _ _ _ _ _ rfl (by rw [hS]; exact Nat.le_of_lt_succ h)]
  exact sum_along (fun (x y : BitVec 8) => x.toInt * y.toInt) A B a b

/-! ## The same bytes as real numbers -/

/-- A sum of whole numbers, each read as an extended real. -/
theorem coe_sum {ι : Type} (s : Finset ι) (f : ι → ℝ) : ∑ c ∈ s, ((f c : ℝ) : EReal) = ((∑ c ∈ s, f c : ℝ) : EReal) := by
  classical
  induction s using Finset.induction_on with
  | empty => simp
  | insert a s ha ih => rw [Finset.sum_insert ha, Finset.sum_insert ha, ih, EReal.coe_add]

/-- A byte read as a number, through a 32-bit word. -/
abbrev num {s : Shape} (A : IVec s 8) : FVec Ideal s .f32 := sitofp .f32 (extsi 32 A (by decide : 8 < 32))

theorem num_apply {s : Shape} (A : IVec s 8) (i : s.Idx) : num A i = ((((A i).toInt : ℤ) : ℝ) : EReal) := by
  show ((((A i).signExtend 32).toInt : ℝ) : EReal) = _
  rw [BitVec.toInt_signExtend_of_le (by decide)]

/-- The product of the bytes read as numbers is the entry. -/
theorem host_eq (A : IVec ⟨2, ![m, k]⟩ 8) (B : IVec ⟨2, ![k, n]⟩ 8) (a : Fin m) (b : Fin n) :
    Host.dotGeneral (DotDims.plain m k n) none (num A) (num B) (ix2 a b) = (((entry A B a b : ℤ) : ℝ) : EReal) := by
  show FloatOps.dotGeneral _ none _ (num A) (num B) (ix2 a b) = _
  rw [Ideal.dotGeneral_apply]
  refine (sum_along (fun (x y : EReal) => x * y) (num A) (num B) a b).trans ?_
  unfold entry
  rw [Int.cast_sum, ← coe_sum]
  exact Finset.sum_congr rfl fun c _ => by rw [num_apply, num_apply, Int.cast_mul, EReal.coe_mul]

/-- The magnitude of a byte read as a number. -/
theorem abs_num_apply {s : Shape} (A : IVec s 8) (i : s.Idx) : Host.absf (num A) i = ((((A i).toInt.natAbs : ℕ) : ℝ) : EReal) := by
  show max (num A i) (-(num A i)) = _
  rw [num_apply, ← EReal.coe_neg, ← EReal.coe_strictMono.monotone.map_max, Nat.cast_natAbs, Int.cast_abs]
  rfl

/-- The product of the magnitudes is the mass. -/
theorem host_abs_eq (A : IVec ⟨2, ![m, k]⟩ 8) (B : IVec ⟨2, ![k, n]⟩ 8) (a : Fin m) (b : Fin n) :
    Host.dotGeneral (DotDims.plain m k n) none (Host.absf (num A)) (Host.absf (num B)) (ix2 a b) = (((mass A B a b : ℕ) : ℝ) : EReal) := by
  show FloatOps.dotGeneral _ none _ (Host.absf (num A)) (Host.absf (num B)) (ix2 a b) = _
  rw [Ideal.dotGeneral_apply]
  refine (sum_along (fun (x y : EReal) => x * y) (Host.absf (num A)) (Host.absf (num B)) a b).trans ?_
  unfold mass
  rw [Nat.cast_sum, ← coe_sum]
  exact Finset.sum_congr rfl fun c _ => by rw [abs_num_apply, abs_num_apply, Int.natAbs_mul, Nat.cast_mul, EReal.coe_mul]

/-! ## Sums of squares -/

/-- Twice the mass is at most the squares of the row and of the column. -/
theorem two_mass_le (A : IVec ⟨2, ![m, k]⟩ 8) (B : IVec ⟨2, ![k, n]⟩ 8) (a : Fin m) (b : Fin n) :
    2 * (mass A B a b : ℤ) ≤ ∑ c, (A (ix2 a c)).toInt ^ 2 + ∑ c, (B (ix2 c b)).toInt ^ 2 := by
  unfold mass
  rw [Nat.cast_sum, Finset.mul_sum, ← Finset.sum_add_distrib]
  refine Finset.sum_le_sum fun c _ => ?_
  rw [Int.natCast_natAbs, abs_mul, ← sq_abs (A (ix2 a c)).toInt, ← sq_abs (B (ix2 c b)).toInt]
  nlinarith [sq_nonneg (|(A (ix2 a c)).toInt| - |(B (ix2 c b)).toInt|)]

/-- The square of a byte read as a number. -/
theorem sq_num_apply {s : Shape} (A : IVec s 8) (i : s.Idx) : mulf (num A) (num A) i = ((((A i).toInt ^ 2 : ℤ) : ℝ) : EReal) := by
  show num A i * num A i = _
  rw [num_apply, ← EReal.coe_mul, sq, Int.cast_mul]

/-- The bound as a literal. -/
theorem literal : Ideal.ofBits .f32 0x4B7FFFFF#32 = ((16777215 : ℝ) : EReal) := by
  simp [Ideal.ofBits, Ideal.ieee, -EReal.coe_mul]

/-- A comparison that is a one. -/
theorem le_of_cmp {x y : EReal} (h : Ideal.cmp .ole x y = 1#1) : x ≤ y := by
  have h' : BitVec.ofBool (decide (x ≤ y)) = 1#1 := h
  by_contra hc
  rw [decide_eq_false hc] at h'
  exact absurd h' (by decide)

end Cert.Entries

end
-- ==== Proof.Value.Device.lean ====
/- A device's result, entry by entry, at the ideal values.

   Both products of the kernel, the one of a device's own rows and the one of the rows that arrive, have at an element
   of mass below 2^24 the entry of the product times the scale, cut at zero; so has the whole result. -/
module

public import proofs.«01_k».proof.Proof.KernelIdeal.Products
public import proofs.«01_k».proof.Proof.Value.Entries

@[expose] public section

noncomputable section

namespace Cert.KernelIdeal.Ring

open Cert.KernelIdeal Cert.KernelIdeal.Gen Cert.Entries

open Idealize.ShloMosaic Idealize.ShloMosaic.TcCoe Idealize.ShloMosaic.ValueIdx

/-- An entry scaled and cut at zero. -/
def scaled (e : ℤ) (s : Ideal .f32) : Ideal .f32 := max (((e : ℝ) : EReal) * s) 0

/-- A product of bytes scaled and cut at zero, at an element of mass below 2^24. -/
theorem scaled_word {m k n : ℕ} (s : Ideal .f32) (A : IVec ⟨2, ![m, k]⟩ 8) (B : IVec ⟨2, ![k, n]⟩ 8) (a : Fin m) (b : Fin n)
    (h : mass A B a b < 2 ^ 24) :
    (maximumf (mulf (sitofp .f32 (matmulI8 IntMxuNumerics.v7x (DotDims.plain m k n) A B (constantI ⟨2, ![m, n]⟩ 32 0#32))) (broadcast ⟨2, ![m, n]⟩ s))
      (broadcast ⟨2, ![m, n]⟩ (Scalar.ofBits .f32 0x00000000#32)) : FVec Ideal ⟨2, ![m, n]⟩ .f32) (ix2 a b) = scaled (entry A B a b) s := by
  show max (((((matmulI8 IntMxuNumerics.v7x (DotDims.plain m k n) A B (constantI ⟨2, ![m, n]⟩ 32 0#32) (ix2 a b)).toInt : ℤ) : ℝ) : EReal) * s)
    (Ideal.ofBits .f32 0x00000000#32) = _
  rw [word_eq A B a b h, Ideal.ofBits_zero_f32, scaled]

/-- The product of a device's own rows. -/
theorem own_entry (s : Ideal .f32) (v : Vec Ideal S512x4096 .i8) (w : Vec Ideal S4096x256 .i8) (a : Fin 512) (b : Fin 256)
    (h : mass (v : IVec S512x4096 8) w a b < 2 ^ 24) :
    k0_pay2 (F := Ideal) s v w (ix2 a b) = scaled (entry (v : IVec S512x4096 8) w a b) s := by
  refine Eq.trans ?_ (scaled_word s (v : IVec S512x4096 8) w a b h)
  unfold k0_pay2
  rw [shapeCast_self, shapeCast_self]
  rfl

/-- The rows that arrive, as the product reads them. -/
def flat (v : Vec Ideal S1x4x64x4096 .i8) : IVec S256x4096 8 :=
  shapeCast S256x4096 (shapeCast S4x64x4096 v shapeCasts_S1x4x64x4096_S4x64x4096) shapeCasts_S4x64x4096_S256x4096

/-- Row `r` of a half is row `r`, or row `r + 256`, of the device's rows. -/
theorem flat_halfRows (d : Bool) (x : Vec Ideal S512x4096 .i8) (r : Fin 256) (c : Fin 4096) (q : Fin 512)
    (hq : q.val = r.val + (if d then 0 else 256)) : flat (halfRows d x) (ix2 r c) = x (ix2 q c) := by
  have hr := r.isLt
  unfold flat
  rw [shapeCast_apply _ _ _ (ix3 (⟨r.val / 64, by omega⟩ : Fin 4) (⟨r.val % 64, Nat.mod_lt _ (by decide)⟩ : Fin 64) c) (by
      rw [Shape.rowMajor_val_three, Shape.rowMajor_val_two]
      show (r.val / 64 * 64 + r.val % 64) * 4096 + c.val = r.val * 4096 + c.val
      omega),
    shapeCast_1abc_abc_apply]
  show x (ix2 (⟨xoff d (⟨r.val / 64, _⟩ : Fin 4) + r.val % 64, _⟩ : Fin 512) c) = _
  congr 2
  refine Fin.ext ?_
  rw [hq]
  cases d
  · show 256 + 64 * (r.val / 64) + r.val % 64 = r.val + 256
    omega
  · show 64 * (r.val / 64) + r.val % 64 = r.val + 0
    omega

/-- The product of the rows that arrive. -/
theorem half_entry (s : Ideal .f32) (v : Vec Ideal S1x4x64x4096 .i8) (w : Vec Ideal S4096x256 .i8) (a : Fin 256) (b : Fin 256)
    (h : mass (flat v) w a b < 2 ^ 24) : k0_pay3 (F := Ideal) s v w (ix2 a b) = scaled (entry (flat v) w a b) s := by
  refine Eq.trans ?_ (scaled_word s (flat v) w a b h)
  unfold k0_pay3
  rw [shapeCast_self]
  rfl

/-- The row of its device's rows that a row of the result is. -/
def rowIn (i : S4096x256.Idx) : Fin 512 := ⟨(i 0).val % 512, Nat.mod_lt _ (by decide)⟩

/-- The result at an element of mass below 2^24. -/
theorem outAt_entry (X : Dev nD → Vec Ideal S512x4096 .i8) (w : Vec Ideal S4096x256 .i8) (s : Ideal .f32) (c : Dev nD) (i : S4096x256.Idx)
    (h : mass (X (rowDev i) : IVec S512x4096 8) w (rowIn i) (i 1 : Fin 256) < 2 ^ 24) :
    outAt X w s c i = scaled (entry (X (rowDev i) : IVec S512x4096 8) w (rowIn i) (i 1 : Fin 256)) s := by
  unfold outAt
  by_cases hc : rowDev i = c
  · subst hc
    rw [if_pos rfl]
    exact own_entry s (X (rowDev i)) w (rowIn i) (i 1) h
  · rw [if_neg hc]
    have hrow : ∀ k : Fin 4096, flat (halfRows (rowHalf i) (X (rowDev i))) (ix2 (⟨(i 0).val % 256, Nat.mod_lt _ (by decide)⟩ : Fin 256) k)
        = X (rowDev i) (ix2 (rowIn i) k) := fun k => flat_halfRows _ _ _ _ _ (by
      show (i 0).val % 512 = (i 0).val % 256 + (if rowHalf i then 0 else 256)
      unfold rowHalf
      by_cases hl : (i 0).val % 512 < 256
      · rw [decide_eq_true hl, if_pos rfl]; omega
      · rw [decide_eq_false hl, if_neg (by decide)]; omega)
    have hm := mass_congr (B := w) (B' := w) (b := (i 1 : Fin 256)) hrow fun _ => rfl
    have he := entry_congr (B := w) (B' := w) (b := (i 1 : Fin 256)) hrow fun _ => rfl
    exact (half_entry s _ w _ (i 1 : Fin 256) (lt_of_eq_of_lt hm h)).trans (congrArg (fun e => scaled e s) he)

end Cert.KernelIdeal.Ring

end
-- ==== Proof.Value.Whole.lean ====
/- The reference's result, the mask and the precondition, entry by entry, at the ideal values.

   The reference's element is the entry of the whole product times the product of the scales, cut at zero. The mask is
   a one only where the mass is below 2^24, and under the precondition, which bounds the squares of each device's rows
   and columns, every element's mass is. -/
module

public import proofs.«01_k».proof.Defs
public import proofs.«01_k».proof.Proof.Gen.ReferenceIdeal
public import proofs.«01_k».proof.Proof.KernelIdeal.Body
public import proofs.«01_k».proof.Proof.Value.Device
public import Idealize.ShloMosaic.Lib.Pointwise.Reduce
public import Idealize.ShloMosaic.Lib.Layout

@[expose] public section

noncomputable section

namespace Cert.Whole

open Cert.Entries

open Idealize.ShloMosaic hiding ix1 ix2
open Idealize.ShloMosaic.TcCoe Idealize.ShloMosaic.ValueIdx

open Cert.KernelIdeal.Ring (scaled scale)

/-! ## The side conditions the mask and the precondition state -/

theorem on_facts : Cert.On_summable.Facts where
  natLt_8_32 := by decide
  bcast_S_S4096x2048 := by decide
  dot_S4096x4096_S4096x2048_S4096x2048_1_0_0_1_n_n_wf := by decide

theorem pre_facts : Cert.Pre_tame_KernelIdeal.Facts where
  natLt_8_32 := by decide
  reducesTo_S512x4096_S512_d1 := by decide
  h_S_ := by decide
  bcast_S_S512 := by decide
  reducesTo_S4096x256_S256_d0 := by decide
  bcast_S_S256 := by decide

theorem pre_facts_reference : Cert.Pre_tame_ReferenceIdeal.Facts where
  natLt_8_32 := by decide
  reducesTo_S4096x4096_S4096_d1 := by decide
  h_S_ := by decide
  bcast_S_S4096 := by decide
  reducesTo_S4096x2048_S2048_d0 := by decide
  bcast_S_S2048 := by decide

/-! ## The reference's element -/

section Reference
open Cert.ReferenceIdeal Cert.ReferenceIdeal.Gen

/-- The reference's result. -/
def whole (A : IVec S4096x4096 8) (B : IVec S4096x2048 8) (sa sb : FVec Ideal S1 .f32) : FVec Ideal S4096x2048 .f32 :=
  maximumf (mulf (Host.dotGeneral dot_S4096x4096_S4096x2048_S4096x2048_1_0_0_1_n_n none (sitofp .f32 (extsi 32 A natLt_8_32)) (sitofp .f32 (extsi 32 B natLt_8_32)))
    (broadcastInDim S4096x2048 ![0, 1] bcast_S1x1_S4096x2048_0_1 (broadcastInDim S1x1 ![1] bcast_S1_S1x1_1 (mulf sa sb))))
    (broadcastInDim S4096x2048 ![] bcast_S_S4096x2048 (constant S_ .f32 0x00000000#32))

theorem whole_entry (A : IVec S4096x4096 8) (B : IVec S4096x2048 8) (sa sb : FVec Ideal S1 .f32) (a : Fin 4096) (b : Fin 2048) :
    whole A B sa sb (ix2 a b) = scaled (entry A B a b) (scale sa sb) := by
  have h : whole A B sa sb (ix2 a b) = max (Host.dotGeneral dot_S4096x4096_S4096x2048_S4096x2048_1_0_0_1_n_n none (num A) (num B) (ix2 a b)
      * (broadcastInDim S4096x2048 ![0, 1] bcast_S1x1_S4096x2048_0_1 (broadcastInDim S1x1 ![1] bcast_S1_S1x1_1 (mulf sa sb)) : FVec Ideal S4096x2048 .f32) (ix2 a b))
      (Ideal.ofBits .f32 0x00000000#32) := rfl
  have hd : Host.dotGeneral dot_S4096x4096_S4096x2048_S4096x2048_1_0_0_1_n_n none (num A) (num B) (ix2 a b) = _ := host_eq A B a b
  rw [h, hd, Ideal.ofBits_zero_f32]
  have hs : (broadcastInDim S4096x2048 ![0, 1] bcast_S1x1_S4096x2048_0_1 (broadcastInDim S1x1 ![1] bcast_S1_S1x1_1 (mulf sa sb)) : FVec Ideal S4096x2048 .f32) (ix2 a b)
      = scale sa sb := congrArg (mulf sa sb) (Cert.KernelIdeal.Ring.idx1 _)
  rw [hs, scaled]

end Reference

/-! ## The mask -/

theorem summable_mass [Cert.On_summable.Facts] (A : IVec ⟨2, ![4096, 4096]⟩ 8) (B : IVec ⟨2, ![4096, 2048]⟩ 8) (sa sb : FVec Ideal ⟨1, ![1]⟩ .f32)
    (a : Fin 4096) (b : Fin 2048)
    (h : Cert.On_summable.fn (F := Ideal) A B sa sb (ix2 a b) = 1#1) : mass A B a b < 2 ^ 24 := by
  have e : Cert.On_summable.fn (F := Ideal) A B sa sb
      = cmpf .ole (Host.dotGeneral Cert.On_summable.dot_S4096x4096_S4096x2048_S4096x2048_1_0_0_1_n_n none (Host.absf (num A)) (Host.absf (num B)))
        (broadcastInDim Cert.On_summable.S4096x2048 ![] Cert.On_summable.Facts.bcast_S_S4096x2048 (constant Cert.On_summable.S_ .f32 0x4B7FFFFF#32)) := rfl
  rw [e, cmpf_apply, Ideal.cmpf_def] at h
  have h1 := le_of_cmp h
  have hl : (broadcastInDim Cert.On_summable.S4096x2048 ![] Cert.On_summable.Facts.bcast_S_S4096x2048 (constant Cert.On_summable.S_ .f32 0x4B7FFFFF#32)
      : FVec Ideal Cert.On_summable.S4096x2048 .f32) (ix2 a b) = Ideal.ofBits .f32 0x4B7FFFFF#32 := rfl
  have hd : Host.dotGeneral Cert.On_summable.dot_S4096x4096_S4096x2048_S4096x2048_1_0_0_1_n_n none (Host.absf (num A)) (Host.absf (num B)) (ix2 a b) = _ :=
    host_abs_eq A B a b
  rw [hd, hl, literal, EReal.coe_le_coe_iff] at h1
  exact Nat.lt_succ_of_le (by exact_mod_cast h1)

/-! ## The precondition -/

/-- Under the precondition the squares of a device's row total less than 2^24, -/
theorem tame_row [Cert.Pre_tame_KernelIdeal.Facts] (x : IVec ⟨2, ![512, 4096]⟩ 8) (w : IVec ⟨2, ![4096, 256]⟩ 8) (sa sb : FVec Ideal ⟨1, ![1]⟩ .f32)
    (h : (Cert.Pre_tame_KernelIdeal.fn (F := Ideal) x w sa sb).1 = fun _ => 1#1) (a : Fin 512) :
    ∑ c : Fin 4096, (x (ix2 a c)).toInt ^ 2 ≤ 16777215 := by
  have h1 : Host.reduceAdd (mulf (num x) (num x)) (constant (F := Ideal) ⟨0, ![]⟩ .f32 0x00000000#32) Cert.Pre_tame_KernelIdeal.Facts.reducesTo_S512x4096_S512_d1
      Cert.Pre_tame_KernelIdeal.Facts.h_S_ (ValueIdx.ix1 a) ≤ Ideal.ofBits .f32 0x4B7FFFFF#32 := le_of_cmp (congrFun h (ValueIdx.ix1 a))
  rw [Host.reduceAdd_apply, Ideal.hostReduceAdd_def, Ideal.hostReduceAdd_r2_a1, literal] at h1
  have h0 : constant (F := Ideal) ⟨0, ![]⟩ .f32 0x00000000#32 (Shape.Idx.first Cert.Pre_tame_KernelIdeal.Facts.h_S_) = 0 := Ideal.ofBits_zero_f32
  rw [h0, zero_add] at h1
  have hs : ∑ c : Fin 4096, mulf (num x) (num x) (ix2 a c) = (((∑ c : Fin 4096, (x (ix2 a c)).toInt ^ 2 : ℤ) : ℝ) : EReal) := by
    rw [Int.cast_sum, ← coe_sum]
    exact Finset.sum_congr rfl fun c _ => sq_num_apply x (ix2 a c)
  have h2 := hs.symm.trans_le h1
  rw [EReal.coe_le_coe_iff] at h2
  exact_mod_cast h2

/-- and so do the squares of a device's column. -/
theorem tame_column [Cert.Pre_tame_KernelIdeal.Facts] (x : IVec ⟨2, ![512, 4096]⟩ 8) (w : IVec ⟨2, ![4096, 256]⟩ 8) (sa sb : FVec Ideal ⟨1, ![1]⟩ .f32)
    (h : (Cert.Pre_tame_KernelIdeal.fn (F := Ideal) x w sa sb).2 = fun _ => 1#1) (b : Fin 256) :
    ∑ c : Fin 4096, (w (ix2 c b)).toInt ^ 2 ≤ 16777215 := by
  have h1 : Host.reduceAdd (mulf (num w) (num w)) (constant (F := Ideal) ⟨0, ![]⟩ .f32 0x00000000#32) Cert.Pre_tame_KernelIdeal.Facts.reducesTo_S4096x256_S256_d0
      Cert.Pre_tame_KernelIdeal.Facts.h_S_ (ValueIdx.ix1 b) ≤ Ideal.ofBits .f32 0x4B7FFFFF#32 := le_of_cmp (congrFun h (ValueIdx.ix1 b))
  rw [Host.reduceAdd_apply, Ideal.hostReduceAdd_def, Ideal.hostReduceAdd_r2_a0, literal] at h1
  have h0 : constant (F := Ideal) ⟨0, ![]⟩ .f32 0x00000000#32 (Shape.Idx.first Cert.Pre_tame_KernelIdeal.Facts.h_S_) = 0 := Ideal.ofBits_zero_f32
  rw [h0, zero_add] at h1
  have hs : ∑ c : Fin 4096, mulf (num w) (num w) (ix2 c b) = (((∑ c : Fin 4096, (w (ix2 c b)).toInt ^ 2 : ℤ) : ℝ) : EReal) := by
    rw [Int.cast_sum, ← coe_sum]
    exact Finset.sum_congr rfl fun c _ => sq_num_apply w (ix2 c b)
  have h2 := hs.symm.trans_le h1
  rw [EReal.coe_le_coe_iff] at h2
  exact_mod_cast h2

/-- Under the precondition on the devices of the row and of the column every entry's mass is below 2^24. -/
theorem tame_mass (x : IVec ⟨2, ![512, 4096]⟩ 8) (w : IVec ⟨2, ![4096, 256]⟩ 8) (a : Fin 512) (b : Fin 256)
    (hx : ∑ c : Fin 4096, (x (ix2 a c)).toInt ^ 2 ≤ 16777215) (hw : ∑ c : Fin 4096, (w (ix2 c b)).toInt ^ 2 ≤ 16777215) : mass x w a b < 2 ^ 24 := by
  have := two_mass_le x w a b
  omega

end Cert.Whole

end
-- ==== Proof.Value.Blocks.lean ====
/- The devices' results are the blocks of the reference's.

   Device `c` has rows [512 c, 512 c + 512) of `x` and columns [256 c, 256 c + 256) of `w_mat`, so an entry of its
   result is the entry of the whole product in column 256 c + its own. Both value claims follow: where the mask is a
   one the entry's mass is below 2^24, and under the precondition it is everywhere. -/
module

public import proofs.«01_k».proof.Proof.KernelIdeal.Launch
public import proofs.«01_k».proof.Proof.Value.Whole
public import proofs.«01_k».proof.Proof.Gen.ReferenceIdeal.Run

@[expose] public section

noncomputable section

namespace Cert.Whole

open Cert.Entries

open Idealize.ShloMosaic hiding ix1 ix2
open Idealize.ShloMosaic.TcCoe Idealize.ShloMosaic.ValueIdx Idealize.SL.Sem

open Cert.KernelIdeal.Ring (scaled scale result rowDev rowIn)

/-- Block `c` of the rows of `x`, -/
abbrev rows (A : IVec ⟨2, ![4096, 4096]⟩ 8) (c : Fin 8) : IVec ⟨2, ![512, 4096]⟩ 8 := Layout.block ⟨2, ![512, 4096]⟩ ⟨2, ![4096, 4096]⟩ 0 8 c A
/-- and block `c` of the columns of `w_mat`. -/
abbrev columns (B : IVec ⟨2, ![4096, 2048]⟩ 8) (c : Fin 8) : IVec ⟨2, ![4096, 256]⟩ 8 := Layout.block ⟨2, ![4096, 256]⟩ ⟨2, ![4096, 2048]⟩ 1 8 c B

/-- The column of the whole result that column `b` of device `c` is. -/
def column (c : Fin 8) (b : Fin 256) : Fin 2048 := ⟨256 * c.val + b.val, by have := c.isLt; have := b.isLt; omega⟩

theorem rows_at (A : IVec ⟨2, ![4096, 4096]⟩ 8) (i : (⟨2, ![4096, 256]⟩ : Shape).Idx) (k : Fin 4096) :
    rows A (rowDev i) (ix2 (rowIn i) k) = A (ix2 (i 0 : Fin 4096) k) := by
  refine congrArg A (funext fun a => Fin.ext ?_)
  match a with
  | ⟨0, _⟩ =>
    show (i 0).val / 512 * 512 + (i 0).val % 512 = (i 0).val
    omega
  | ⟨1, _⟩ => rfl

/-- Where an element of block `c` of an array cut by columns is in the whole. -/
theorem idx_at (c : Fin 8) (h : Layout.Tiles ⟨2, ![4096, 256]⟩ ⟨2, ![4096, 2048]⟩ 1 8) (i : (⟨2, ![4096, 256]⟩ : Shape).Idx) :
    h.idx c i = ix2 (i 0 : Fin 4096) (column c (i 1)) := by
  refine funext fun a => Fin.ext ?_
  match a with
  | ⟨0, _⟩ => rfl
  | ⟨1, _⟩ =>
    show c.val * 256 + (i 1).val = 256 * c.val + (i 1).val
    omega

theorem columns_at (B : IVec ⟨2, ![4096, 2048]⟩ 8) (c : Fin 8) (i : (⟨2, ![4096, 256]⟩ : Shape).Idx) (k : Fin 4096) :
    columns B c (ix2 k (i 1 : Fin 256)) = B (ix2 k (column c (i 1))) :=
  congrArg B (idx_at c _ (ix2 k (i 1 : Fin 256)))

section Memories

variable (m : (ℓ : Loc Cert.KernelIdeal.nD Cert.KernelIdeal.τ Cert.KernelIdeal.sig) → Buf (Elt Ideal) ℓ)
variable (A : IVec ⟨2, ![4096, 4096]⟩ 8) (B : IVec ⟨2, ![4096, 2048]⟩ 8) (sa sb : FVec Ideal ⟨1, ![1]⟩ .f32)

/-- Each device's arguments are its parts of the whole arrays. -/
def Parts : Prop := ∀ c : Dev Cert.KernelIdeal.nD,
  m ((c.tc : Thread Cert.KernelIdeal.nD Cert.KernelIdeal.τ).loc Cert.KernelIdeal.main_arg0) = rows A c
  ∧ m ((c.tc : Thread Cert.KernelIdeal.nD Cert.KernelIdeal.τ).loc Cert.KernelIdeal.main_arg1) = columns B c
  ∧ m ((c.tc : Thread Cert.KernelIdeal.nD Cert.KernelIdeal.τ).loc Cert.KernelIdeal.main_arg2) = sa
  ∧ m ((c.tc : Thread Cert.KernelIdeal.nD Cert.KernelIdeal.τ).loc Cert.KernelIdeal.main_arg3) = sb

variable {m A B sa sb}

/-- An element of device `c`'s result, where its mass is below 2^24. -/
theorem result_eq (hp : Parts m A B sa sb) (c : Dev Cert.KernelIdeal.nD) (i : (⟨2, ![4096, 256]⟩ : Shape).Idx)
    (h : mass A B (i 0) (column c (i 1)) < 2 ^ 24) :
    result m c i = Layout.block ⟨2, ![4096, 256]⟩ ⟨2, ![4096, 2048]⟩ 1 8 c (whole A B sa sb) (by decide) i := by
  have hm := mass_congr (rows_at A i) (columns_at B c i)
  have he := entry_congr (rows_at A i) (columns_at B c i)
  have hX : (fun d : Dev Cert.KernelIdeal.nD => m ((d : Thread Cert.KernelIdeal.nD Cert.KernelIdeal.τ).loc Cert.KernelIdeal.main_arg0)) = rows A :=
    funext fun d => (hp d).1
  have hw : m ((c : Thread Cert.KernelIdeal.nD Cert.KernelIdeal.τ).loc Cert.KernelIdeal.main_arg1) = columns B c := (hp c).2.1
  have ha : m ((c : Thread Cert.KernelIdeal.nD Cert.KernelIdeal.τ).loc Cert.KernelIdeal.main_arg2) = sa := (hp c).2.2.1
  have hb : m ((c : Thread Cert.KernelIdeal.nD Cert.KernelIdeal.τ).loc Cert.KernelIdeal.main_arg3) = sb := (hp c).2.2.2
  unfold result
  rw [hX, hw, ha, hb]
  refine (Cert.KernelIdeal.Ring.outAt_entry (rows A) (columns B c) (scale sa sb) c i (lt_of_eq_of_lt hm h)).trans ?_
  refine (congrArg (fun e => scaled e (scale sa sb)) he).trans ?_
  refine (whole_entry A B sa sb (i 0) (column c (i 1))).symm.trans ?_
  exact congrArg (whole A B sa sb) (idx_at c _ i).symm

/-- Under the precondition every element's mass is below 2^24. -/
theorem mass_of_tame [Cert.Pre_tame_KernelIdeal.Facts] (hp : Parts m A B sa sb) (ht : Cert.Pre_KernelIdeal_tame_KernelIdeal m)
    (c : Dev Cert.KernelIdeal.nD) (i : (⟨2, ![4096, 256]⟩ : Shape).Idx) : mass A B (i 0) (column c (i 1)) < 2 ^ 24 := by
  rw [← mass_congr (rows_at A i) (columns_at B c i)]
  have h0 := (ht (rowDev i)).1
  have h1 := (ht c).2
  rw [(hp (rowDev i)).1] at h0
  rw [(hp c).2.1] at h1
  exact tame_mass _ _ _ _ (tame_row _ _ _ _ h0 (rowIn i)) (tame_column _ _ _ _ h1 (i 1))

end Memories

/-- The reference's result from a memory of its own. -/
abbrev wholeOf (m' : (ℓ : Loc Cert.ReferenceIdeal.nD Cert.ReferenceIdeal.τ Cert.ReferenceIdeal.sig) → Buf (Elt Ideal) ℓ) :=
  whole (m' ((0 : Dev Cert.ReferenceIdeal.nD).tc.loc Cert.ReferenceIdeal.main_arg0)) (m' ((0 : Dev Cert.ReferenceIdeal.nD).tc.loc Cert.ReferenceIdeal.main_arg1))
    (m' ((0 : Dev Cert.ReferenceIdeal.nD).tc.loc Cert.ReferenceIdeal.main_arg2)) (m' ((0 : Dev Cert.ReferenceIdeal.nD).tc.loc Cert.ReferenceIdeal.main_arg3))

/-- The value claim at the elements the mask selects. -/
theorem masked [Cert.On_summable.Facts] : Cert.algebraic_KernelIdeal_ReferenceIdeal_on_summable := fun m ρ m' ρ' _ hp => by
  have hP : Parts m _ _ _ _ := hp
  refine ⟨wholeOf m', ?_, ?_⟩
  · refine (θ_run _ _ _).mono (fun r h c => ⟨fun i hi => ?_, (h.1 c).2⟩) (Cert.KernelIdeal.Ring.run_main m ρ)
    rw [(h.1 c).1]
    refine result_eq hP c i (summable_mass _ _ (m' ((0 : Dev Cert.ReferenceIdeal.nD).tc.loc Cert.ReferenceIdeal.main_arg2))
      (m' ((0 : Dev Cert.ReferenceIdeal.nD).tc.loc Cert.ReferenceIdeal.main_arg3)) _ _ ?_)
    exact (congrArg (Cert.On_summable.fn (F := Ideal) _ _ _ _) (idx_at c (by decide) i).symm).trans hi
  · exact (θ_run _ _ _).mono (fun r h => ⟨fun i _ => congrFun (h 0).1 i, (h 0).2⟩) (Cert.ReferenceIdeal.Value.run m' ρ')

/-- The value claim of the whole result, under the precondition. -/
theorem unmasked [Cert.Pre_tame_KernelIdeal.Facts] : Cert.algebraic_KernelIdeal_ReferenceIdeal_pre_tame_KernelIdeal := fun m ρ m' ρ' ht hp => by
  have hP : Parts m _ _ _ _ := hp
  refine ⟨wholeOf m', ?_, ?_⟩
  · refine (θ_run _ _ _).mono (fun r h c => ⟨?_, (h.1 c).2⟩) (Cert.KernelIdeal.Ring.run_main m ρ)
    rw [(h.1 c).1]
    exact funext fun i => result_eq hP c i (mass_of_tame hP ht c i)
  · exact (θ_run _ _ _).mono (fun r h => ⟨(h 0).1, (h 0).2⟩) (Cert.ReferenceIdeal.Value.run m' ρ')

end Cert.Whole

end
-- ==== Proof.lean ====
/- The certificate's claim: the frames of the three programs (Proof/Frames.lean) and the kernel's value against the
   reference's, at the elements the mask selects and, under the precondition, at every element (Proof/Value/). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value.Blocks
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Whole.pre_facts, Cert.Whole.pre_facts_reference, Cert.Whole.on_facts,
    Cert.Frames.kernel, Cert.Frames.kernelIdeal, @Cert.Frames.kernelIdeal_pre Cert.Whole.pre_facts, Cert.Frames.referenceIdeal,
    @Cert.Frames.referenceIdeal_pre Cert.Whole.pre_facts_reference, trivial, @Cert.Whole.masked Cert.Whole.on_facts,
    @Cert.Whole.unmasked Cert.Whole.pre_facts⟩

end Cert.Proof

end
